-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4x2x1024x512 : Shape := ⟨4, ![4, 2, 1024, 512]⟩
abbrev S3x2 : Shape := ⟨2, ![3, 2]⟩
abbrev S5x8x128 : Shape := ⟨3, ![5, 8, 128]⟩
abbrev S3 : Shape := ⟨1, ![3]⟩
abbrev S2x2 : Shape := ⟨2, ![2, 2]⟩
abbrev S_ : Shape := ⟨0, ![]⟩
abbrev S1024x1024 : Shape := ⟨2, ![1024, 1024]⟩
abbrev S1024x512 : Shape := ⟨2, ![1024, 512]⟩
abbrev S1x1x1024x512 : Shape := ⟨4, ![1, 1, 1024, 512]⟩
abbrev S1x1 : Shape := ⟨2, ![1, 1]⟩
abbrev S1x1024x512 : Shape := ⟨3, ![1, 1024, 512]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S1024x8192, .bf16⟩
  | .local _ .vmem, ⟨0, _⟩ => ⟨S4096x1024, .bf16⟩
  | .local _ .vmem, ⟨1, _⟩ => ⟨S1024x8192, .bf16⟩
  | .local _ .vmem, ⟨2, _⟩ => ⟨S4x2x1024x512, .bf16⟩
  | .local _ .vmem, ⟨3, _⟩ => ⟨S4x2x1024x512, .bf16⟩
  | .local _ .vmem, ⟨4, _⟩ => ⟨S1024x8192, .bf16⟩
  | .local _ .vmem, ⟨5, _⟩ => ⟨S5x8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 3 36 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch7 : Ref sig .tc := ⟨.vmem, 5, rfl⟩
abbrev cc0_sem0_0 : DmaSem sig := 0
abbrev cc0_sem1_0 : DmaSem sig := 1
abbrev barrier0 : Sem sig := 2

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c1_i32_6 : BitVec 32 := 1#32
  let v10 : BitVec 32 := Scalar.subi v9 c1_i32_6
  let c4_i32_7 : BitVec 32 := 4#32
  let v11 : BitVec 32 := Scalar.remsi v10 c4_i32_7
  let c1024_i32 : BitVec 32 := 1024#32
  let v12 : BitVec 32 := Scalar.muli v11 c1024_i32
  let v13 : Index := Scalar.indexCast v12
  let c0 : Index := 0#32
  ![v13.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v28 : BitVec 32 := Scalar.addi v2 c1_i32_17
  let c4_i32_18 : BitVec 32 := 4#32
  let v29 : BitVec 32 := Scalar.remsi v28 c4_i32_18
  let c1024_i32_19 : BitVec 32 := 1024#32
  let v30 : BitVec 32 := Scalar.muli v29 c1024_i32_19
  let v31 : Index := Scalar.indexCast v30
  let c0_20 : Index := 0#32
  ![v31.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_32 : BitVec 32 := 1#32
  let v46 : BitVec 32 := Scalar.muli v5 c1_i32_32
  let v47 : BitVec 32 := Scalar.addi c0_i32 v46
  v47.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_34 : BitVec 32 := 1#32
  let v48 : BitVec 32 := Scalar.muli v7 c1_i32_34
  let v49 : BitVec 32 := Scalar.addi c0_i32_35 v48
  v49.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_44 : BitVec 32 := 1#32
  let v50 : BitVec 32 := Scalar.muli v7 c1_i32_44
  let v51 : BitVec 32 := Scalar.addi c0_i32_45 v50
  v51.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_58 : BitVec 32 := 1#32
  let v60 : BitVec 32 := Scalar.muli v5 c1_i32_58
  let v61 : BitVec 32 := Scalar.addi c0_i32_59 v60
  v61.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_72 : BitVec 32 := 1#32
  let v70 : BitVec 32 := Scalar.muli v7 c1_i32_72
  let v71 : BitVec 32 := Scalar.addi c0_i32_73 v70
  v71.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_86 : BitVec 32 := 1#32
  let v80 : BitVec 32 := Scalar.muli v5 c1_i32_86
  let v81 : BitVec 32 := Scalar.addi c0_i32_87 v80
  v81.toNat
def k0_off3 (d0 : Dev nD) (c0_i32_93 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v90 : BitVec 32 := Scalar.addi v2 c8_i32
  let c2_i32_92 : BitVec 32 := 2#32
  let v91 : BitVec 32 := Scalar.subi v90 c2_i32_92
  let v92 : BitVec 32 := Scalar.subi v91 c0_i32_93
  let c4_i32_94 : BitVec 32 := 4#32
  let v93 : BitVec 32 := Scalar.remsi v92 c4_i32_94
  let c1024_i32_95 : BitVec 32 := 1024#32
  let v94 : BitVec 32 := Scalar.muli v93 c1024_i32_95
  let v95 : Index := Scalar.indexCast v94
  let c0_96 : Index := 0#32
  ![v95.toNat, 0]
def k0_off4 (d0 : Dev nD) (c0_i32_101 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_100 : BitVec 32 := 2#32
  let v102 : BitVec 32 := Scalar.addi v2 c2_i32_100
  let v103 : BitVec 32 := Scalar.addi v102 c0_i32_101
  let c4_i32_102 : BitVec 32 := 4#32
  let v104 : BitVec 32 := Scalar.remsi v103 c4_i32_102
  let c1024_i32_103 : BitVec 32 := 1024#32
  let v105 : BitVec 32 := Scalar.muli v104 c1024_i32_103
  let v106 : Index := Scalar.indexCast v105
  let c0_104 : Index := 0#32
  ![v106.toNat, 0]
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_151 : BitVec 32 := 1#32
  let v134 : BitVec 32 := Scalar.muli v7 c1_i32_151
  let v135 : BitVec 32 := Scalar.addi c0_i32_152 v134
  v135.toNat
def k0_dev8 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_200 : BitVec 32 := 1#32
  let v165 : BitVec 32 := Scalar.muli v5 c1_i32_200
  let v166 : BitVec 32 := Scalar.addi c0_i32_201 v165
  v166.toNat
def k0_dev9 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_249 : BitVec 32 := 1#32
  let v196 : BitVec 32 := Scalar.muli v7 c1_i32_249
  let v197 : BitVec 32 := Scalar.addi c0_i32_250 v196
  v197.toNat
def k0_dev10 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_298 : BitVec 32 := 1#32
  let v227 : BitVec 32 := Scalar.muli v5 c1_i32_298
  let v228 : BitVec 32 := Scalar.addi c0_i32_299 v227
  v228.toNat
def k0_dev11 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_349 : BitVec 32 := 1#32
  let v274 : BitVec 32 := Scalar.muli v5 c1_i32_349
  let v275 : BitVec 32 := Scalar.addi c0_i32_350 v274
  v275.toNat
def k0_dev12 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_365 : BitVec 32 := 1#32
  let v283 : BitVec 32 := Scalar.muli v7 c1_i32_365
  let v284 : BitVec 32 := Scalar.addi c0_i32_366 v283
  v284.toNat
def k0_dev13 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_399 : BitVec 32 := 1#32
  let v307 : BitVec 32 := Scalar.muli v7 c1_i32_399
  let v308 : BitVec 32 := Scalar.addi c0_i32_400 v307
  v308.toNat
def k0_dev14 (d0 : Dev nD) : Nat :=
  let c0_i32_418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_417 : BitVec 32 := 1#32
  let v316 : BitVec 32 := Scalar.muli v5 c1_i32_417
  let v317 : BitVec 32 := Scalar.addi c0_i32_418 v316
  v317.toNat
def k0_dev15 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_451 : BitVec 32 := 1#32
  let v340 : BitVec 32 := Scalar.muli v5 c1_i32_451
  let v341 : BitVec 32 := Scalar.addi c0_i32_452 v340
  v341.toNat
def k0_dev16 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_469 : BitVec 32 := 1#32
  let v349 : BitVec 32 := Scalar.muli v7 c1_i32_469
  let v350 : BitVec 32 := Scalar.addi c0_i32_470 v349
  v350.toNat
def k0_dev17 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_503 : BitVec 32 := 1#32
  let v373 : BitVec 32 := Scalar.muli v7 c1_i32_503
  let v374 : BitVec 32 := Scalar.addi c0_i32_504 v373
  v374.toNat
def k0_dev18 (d0 : Dev nD) : Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_521 : BitVec 32 := 1#32
  let v382 : BitVec 32 := Scalar.muli v5 c1_i32_521
  let v383 : BitVec 32 := Scalar.addi c0_i32_522 v382
  v383.toNat
def k0_dev19 (d0 : Dev nD) : Nat :=
  let c0_i32_573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_572 : BitVec 32 := 1#32
  let v429 : BitVec 32 := Scalar.muli v5 c1_i32_572
  let v430 : BitVec 32 := Scalar.addi c0_i32_573 v429
  v430.toNat
def k0_dev20 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_602 : BitVec 32 := 1#32
  let v445 : BitVec 32 := Scalar.muli v7 c1_i32_602
  let v446 : BitVec 32 := Scalar.addi c0_i32_603 v445
  v446.toNat
def k0_dev21 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_632 : BitVec 32 := 1#32
  let v461 : BitVec 32 := Scalar.muli v5 c1_i32_632
  let v462 : BitVec 32 := Scalar.addi c0_i32_633 v461
  v462.toNat
def k0_dev22 (d0 : Dev nD) : Nat :=
  let c0_i32_663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_662 : BitVec 32 := 1#32
  let v477 : BitVec 32 := Scalar.muli v7 c1_i32_662
  let v478 : BitVec 32 := Scalar.addi c0_i32_663 v477
  v478.toNat
def k0_dev23 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_703 : BitVec 32 := 1#32
  let v516 : BitVec 32 := Scalar.muli v7 c1_i32_703
  let v517 : BitVec 32 := Scalar.addi c0_i32_704 v516
  v517.toNat
def k0_dev24 (d0 : Dev nD) : Nat :=
  let c0_i32_720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_719 : BitVec 32 := 1#32
  let v526 : BitVec 32 := Scalar.muli v5 c1_i32_719
  let v527 : BitVec 32 := Scalar.addi c0_i32_720 v526
  v527.toNat
def k0_dev25 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_735 : BitVec 32 := 1#32
  let v536 : BitVec 32 := Scalar.muli v7 c1_i32_735
  let v537 : BitVec 32 := Scalar.addi c0_i32_736 v536
  v537.toNat
def k0_dev26 (d0 : Dev nD) : Nat :=
  let c0_i32_752 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_751 : BitVec 32 := 1#32
  let v546 : BitVec 32 := Scalar.muli v5 c1_i32_751
  let v547 : BitVec 32 := Scalar.addi c0_i32_752 v546
  v547.toNat
def k0_dev27 (d0 : Dev nD) : Nat :=
  let c0_i32_783 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_782 : BitVec 32 := 1#32
  let v595 : BitVec 32 := Scalar.muli v5 c1_i32_782
  let v596 : BitVec 32 := Scalar.addi c0_i32_783 v595
  v596.toNat
def k0_dev28 (d0 : Dev nD) : Nat :=
  let c0_i32_793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_792 : BitVec 32 := 1#32
  let v613 : BitVec 32 := Scalar.muli v7 c1_i32_792
  let v614 : BitVec 32 := Scalar.addi c0_i32_793 v613
  v614.toNat
def k0_dev29 (d0 : Dev nD) : Nat :=
  let c0_i32_802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_801 : BitVec 32 := 1#32
  let v631 : BitVec 32 := Scalar.muli v5 c1_i32_801
  let v632 : BitVec 32 := Scalar.addi c0_i32_802 v631
  v632.toNat
def k0_dev30 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_810 : BitVec 32 := 1#32
  let v649 : BitVec 32 := Scalar.muli v7 c1_i32_810
  let v650 : BitVec 32 := Scalar.addi c0_i32_811 v649
  v650.toNat
def k0_dev31 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_857 : BitVec 32 := 1#32
  let v672 : BitVec 32 := Scalar.muli v7 c1_i32_857
  let v673 : BitVec 32 := Scalar.addi c0_i32_858 v672
  v673.toNat
def k0_dev32 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_908 : BitVec 32 := 1#32
  let v703 : BitVec 32 := Scalar.muli v5 c1_i32_908
  let v704 : BitVec 32 := Scalar.addi c0_i32_909 v703
  v704.toNat
def k0_dev33 (d0 : Dev nD) : Nat :=
  let c0_i32_960 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_959 : BitVec 32 := 1#32
  let v734 : BitVec 32 := Scalar.muli v7 c1_i32_959
  let v735 : BitVec 32 := Scalar.addi c0_i32_960 v734
  v735.toNat
def k0_dev34 (d0 : Dev nD) : Nat :=
  let c0_i32_1011 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1010 : BitVec 32 := 1#32
  let v765 : BitVec 32 := Scalar.muli v5 c1_i32_1010
  let v766 : BitVec 32 := Scalar.addi c0_i32_1011 v765
  v766.toNat
def k0_dev35 (d0 : Dev nD) : Nat :=
  let c0_i32_1062 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1061 : BitVec 32 := 1#32
  let v812 : BitVec 32 := Scalar.muli v5 c1_i32_1061
  let v813 : BitVec 32 := Scalar.addi c0_i32_1062 v812
  v813.toNat
def k0_dev36 (d0 : Dev nD) : Nat :=
  let c0_i32_1082 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1081 : BitVec 32 := 1#32
  let v821 : BitVec 32 := Scalar.muli v7 c1_i32_1081
  let v822 : BitVec 32 := Scalar.addi c0_i32_1082 v821
  v822.toNat
def k0_dev37 (d0 : Dev nD) : Nat :=
  let c0_i32_1116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1115 : BitVec 32 := 1#32
  let v845 : BitVec 32 := Scalar.muli v7 c1_i32_1115
  let v846 : BitVec 32 := Scalar.addi c0_i32_1116 v845
  v846.toNat
def k0_dev38 (d0 : Dev nD) : Nat :=
  let c0_i32_1136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1135 : BitVec 32 := 1#32
  let v854 : BitVec 32 := Scalar.muli v5 c1_i32_1135
  let v855 : BitVec 32 := Scalar.addi c0_i32_1136 v854
  v855.toNat
def k0_dev39 (d0 : Dev nD) : Nat :=
  let c0_i32_1170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1169 : BitVec 32 := 1#32
  let v878 : BitVec 32 := Scalar.muli v5 c1_i32_1169
  let v879 : BitVec 32 := Scalar.addi c0_i32_1170 v878
  v879.toNat
def k0_dev40 (d0 : Dev nD) : Nat :=
  let c0_i32_1190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1189 : BitVec 32 := 1#32
  let v887 : BitVec 32 := Scalar.muli v7 c1_i32_1189
  let v888 : BitVec 32 := Scalar.addi c0_i32_1190 v887
  v888.toNat
def k0_dev41 (d0 : Dev nD) : Nat :=
  let c0_i32_1224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1223 : BitVec 32 := 1#32
  let v911 : BitVec 32 := Scalar.muli v7 c1_i32_1223
  let v912 : BitVec 32 := Scalar.addi c0_i32_1224 v911
  v912.toNat
def k0_dev42 (d0 : Dev nD) : Nat :=
  let c0_i32_1244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1243 : BitVec 32 := 1#32
  let v920 : BitVec 32 := Scalar.muli v5 c1_i32_1243
  let v921 : BitVec 32 := Scalar.addi c0_i32_1244 v920
  v921.toNat
def k0_dev43 (d0 : Dev nD) : Nat :=
  let c0_i32_1295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1294 : BitVec 32 := 1#32
  let v967 : BitVec 32 := Scalar.muli v5 c1_i32_1294
  let v968 : BitVec 32 := Scalar.addi c0_i32_1295 v967
  v968.toNat
def k0_dev44 (d0 : Dev nD) : Nat :=
  let c0_i32_1325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1324 : BitVec 32 := 1#32
  let v983 : BitVec 32 := Scalar.muli v7 c1_i32_1324
  let v984 : BitVec 32 := Scalar.addi c0_i32_1325 v983
  v984.toNat
def k0_dev45 (d0 : Dev nD) : Nat :=
  let c0_i32_1355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1354 : BitVec 32 := 1#32
  let v999 : BitVec 32 := Scalar.muli v5 c1_i32_1354
  let v1000 : BitVec 32 := Scalar.addi c0_i32_1355 v999
  v1000.toNat
def k0_dev46 (d0 : Dev nD) : Nat :=
  let c0_i32_1385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1384 : BitVec 32 := 1#32
  let v1015 : BitVec 32 := Scalar.muli v7 c1_i32_1384
  let v1016 : BitVec 32 := Scalar.addi c0_i32_1385 v1015
  v1016.toNat
def k0_dev47 (d0 : Dev nD) : Nat :=
  let c0_i32_1426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1425 : BitVec 32 := 1#32
  let v1054 : BitVec 32 := Scalar.muli v7 c1_i32_1425
  let v1055 : BitVec 32 := Scalar.addi c0_i32_1426 v1054
  v1055.toNat
def k0_dev48 (d0 : Dev nD) : Nat :=
  let c0_i32_1442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1441 : BitVec 32 := 1#32
  let v1064 : BitVec 32 := Scalar.muli v5 c1_i32_1441
  let v1065 : BitVec 32 := Scalar.addi c0_i32_1442 v1064
  v1065.toNat
def k0_dev49 (d0 : Dev nD) : Nat :=
  let c0_i32_1458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1457 : BitVec 32 := 1#32
  let v1074 : BitVec 32 := Scalar.muli v7 c1_i32_1457
  let v1075 : BitVec 32 := Scalar.addi c0_i32_1458 v1074
  v1075.toNat
def k0_dev50 (d0 : Dev nD) : Nat :=
  let c0_i32_1474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1473 : BitVec 32 := 1#32
  let v1084 : BitVec 32 := Scalar.muli v5 c1_i32_1473
  let v1085 : BitVec 32 := Scalar.addi c0_i32_1474 v1084
  v1085.toNat
def k0_dev51 (d0 : Dev nD) : Nat :=
  let c0_i32_1505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1504 : BitVec 32 := 1#32
  let v1133 : BitVec 32 := Scalar.muli v5 c1_i32_1504
  let v1134 : BitVec 32 := Scalar.addi c0_i32_1505 v1133
  v1134.toNat
def k0_dev52 (d0 : Dev nD) : Nat :=
  let c0_i32_1515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1514 : BitVec 32 := 1#32
  let v1151 : BitVec 32 := Scalar.muli v7 c1_i32_1514
  let v1152 : BitVec 32 := Scalar.addi c0_i32_1515 v1151
  v1152.toNat
def k0_dev53 (d0 : Dev nD) : Nat :=
  let c0_i32_1524 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1523 : BitVec 32 := 1#32
  let v1169 : BitVec 32 := Scalar.muli v5 c1_i32_1523
  let v1170 : BitVec 32 := Scalar.addi c0_i32_1524 v1169
  v1170.toNat
def k0_dev54 (d0 : Dev nD) : Nat :=
  let c0_i32_1533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1532 : BitVec 32 := 1#32
  let v1187 : BitVec 32 := Scalar.muli v7 c1_i32_1532
  let v1188 : BitVec 32 := Scalar.addi c0_i32_1533 v1187
  v1188.toNat
def k0_dev55 (d0 : Dev nD) : Nat :=
  let c0_i32_1580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1579 : BitVec 32 := 1#32
  let v1210 : BitVec 32 := Scalar.muli v7 c1_i32_1579
  let v1211 : BitVec 32 := Scalar.addi c0_i32_1580 v1210
  v1211.toNat
def k0_dev56 (d0 : Dev nD) : Nat :=
  let c0_i32_1631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1630 : BitVec 32 := 1#32
  let v1241 : BitVec 32 := Scalar.muli v5 c1_i32_1630
  let v1242 : BitVec 32 := Scalar.addi c0_i32_1631 v1241
  v1242.toNat
def k0_dev57 (d0 : Dev nD) : Nat :=
  let c0_i32_1682 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1681 : BitVec 32 := 1#32
  let v1272 : BitVec 32 := Scalar.muli v7 c1_i32_1681
  let v1273 : BitVec 32 := Scalar.addi c0_i32_1682 v1272
  v1273.toNat
def k0_dev58 (d0 : Dev nD) : Nat :=
  let c0_i32_1733 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1732 : BitVec 32 := 1#32
  let v1303 : BitVec 32 := Scalar.muli v5 c1_i32_1732
  let v1304 : BitVec 32 := Scalar.addi c0_i32_1733 v1303
  v1304.toNat
def k0_dev59 (d0 : Dev nD) : Nat :=
  let c0_i32_1784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1783 : BitVec 32 := 1#32
  let v1350 : BitVec 32 := Scalar.muli v5 c1_i32_1783
  let v1351 : BitVec 32 := Scalar.addi c0_i32_1784 v1350
  v1351.toNat
def k0_dev60 (d0 : Dev nD) : Nat :=
  let c0_i32_1804 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1803 : BitVec 32 := 1#32
  let v1359 : BitVec 32 := Scalar.muli v7 c1_i32_1803
  let v1360 : BitVec 32 := Scalar.addi c0_i32_1804 v1359
  v1360.toNat
def k0_dev61 (d0 : Dev nD) : Nat :=
  let c0_i32_1838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1837 : BitVec 32 := 1#32
  let v1383 : BitVec 32 := Scalar.muli v7 c1_i32_1837
  let v1384 : BitVec 32 := Scalar.addi c0_i32_1838 v1383
  v1384.toNat
def k0_dev62 (d0 : Dev nD) : Nat :=
  let c0_i32_1858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1857 : BitVec 32 := 1#32
  let v1392 : BitVec 32 := Scalar.muli v5 c1_i32_1857
  let v1393 : BitVec 32 := Scalar.addi c0_i32_1858 v1392
  v1393.toNat
def k0_dev63 (d0 : Dev nD) : Nat :=
  let c0_i32_1892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1891 : BitVec 32 := 1#32
  let v1416 : BitVec 32 := Scalar.muli v5 c1_i32_1891
  let v1417 : BitVec 32 := Scalar.addi c0_i32_1892 v1416
  v1417.toNat
def k0_dev64 (d0 : Dev nD) : Nat :=
  let c0_i32_1912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1911 : BitVec 32 := 1#32
  let v1425 : BitVec 32 := Scalar.muli v7 c1_i32_1911
  let v1426 : BitVec 32 := Scalar.addi c0_i32_1912 v1425
  v1426.toNat
def k0_dev65 (d0 : Dev nD) : Nat :=
  let c0_i32_1946 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1945 : BitVec 32 := 1#32
  let v1449 : BitVec 32 := Scalar.muli v7 c1_i32_1945
  let v1450 : BitVec 32 := Scalar.addi c0_i32_1946 v1449
  v1450.toNat
def k0_dev66 (d0 : Dev nD) : Nat :=
  let c0_i32_1966 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1965 : BitVec 32 := 1#32
  let v1458 : BitVec 32 := Scalar.muli v5 c1_i32_1965
  let v1459 : BitVec 32 := Scalar.addi c0_i32_1966 v1458
  v1459.toNat
def k0_dev67 (d0 : Dev nD) : Nat :=
  let c0_i32_2017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2016 : BitVec 32 := 1#32
  let v1505 : BitVec 32 := Scalar.muli v5 c1_i32_2016
  let v1506 : BitVec 32 := Scalar.addi c0_i32_2017 v1505
  v1506.toNat
def k0_dev68 (d0 : Dev nD) : Nat :=
  let c0_i32_2047 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2046 : BitVec 32 := 1#32
  let v1521 : BitVec 32 := Scalar.muli v7 c1_i32_2046
  let v1522 : BitVec 32 := Scalar.addi c0_i32_2047 v1521
  v1522.toNat
def k0_dev69 (d0 : Dev nD) : Nat :=
  let c0_i32_2077 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2076 : BitVec 32 := 1#32
  let v1537 : BitVec 32 := Scalar.muli v5 c1_i32_2076
  let v1538 : BitVec 32 := Scalar.addi c0_i32_2077 v1537
  v1538.toNat
def k0_dev70 (d0 : Dev nD) : Nat :=
  let c0_i32_2107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2106 : BitVec 32 := 1#32
  let v1553 : BitVec 32 := Scalar.muli v7 c1_i32_2106
  let v1554 : BitVec 32 := Scalar.addi c0_i32_2107 v1553
  v1554.toNat
def k0_dev71 (d0 : Dev nD) : Nat :=
  let c0_i32_2148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2147 : BitVec 32 := 1#32
  let v1592 : BitVec 32 := Scalar.muli v7 c1_i32_2147
  let v1593 : BitVec 32 := Scalar.addi c0_i32_2148 v1592
  v1593.toNat
def k0_dev72 (d0 : Dev nD) : Nat :=
  let c0_i32_2164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2163 : BitVec 32 := 1#32
  let v1602 : BitVec 32 := Scalar.muli v5 c1_i32_2163
  let v1603 : BitVec 32 := Scalar.addi c0_i32_2164 v1602
  v1603.toNat
def k0_dev73 (d0 : Dev nD) : Nat :=
  let c0_i32_2180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2179 : BitVec 32 := 1#32
  let v1612 : BitVec 32 := Scalar.muli v7 c1_i32_2179
  let v1613 : BitVec 32 := Scalar.addi c0_i32_2180 v1612
  v1613.toNat
def k0_dev74 (d0 : Dev nD) : Nat :=
  let c0_i32_2196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2195 : BitVec 32 := 1#32
  let v1622 : BitVec 32 := Scalar.muli v5 c1_i32_2195
  let v1623 : BitVec 32 := Scalar.addi c0_i32_2196 v1622
  v1623.toNat
def k0_dev75 (d0 : Dev nD) : Nat :=
  let c0_i32_2227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2226 : BitVec 32 := 1#32
  let v1671 : BitVec 32 := Scalar.muli v5 c1_i32_2226
  let v1672 : BitVec 32 := Scalar.addi c0_i32_2227 v1671
  v1672.toNat
def k0_dev76 (d0 : Dev nD) : Nat :=
  let c0_i32_2237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2236 : BitVec 32 := 1#32
  let v1689 : BitVec 32 := Scalar.muli v7 c1_i32_2236
  let v1690 : BitVec 32 := Scalar.addi c0_i32_2237 v1689
  v1690.toNat
def k0_dev77 (d0 : Dev nD) : Nat :=
  let c0_i32_2246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2245 : BitVec 32 := 1#32
  let v1707 : BitVec 32 := Scalar.muli v5 c1_i32_2245
  let v1708 : BitVec 32 := Scalar.addi c0_i32_2246 v1707
  v1708.toNat
def k0_dev78 (d0 : Dev nD) : Nat :=
  let c0_i32_2255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2254 : BitVec 32 := 1#32
  let v1725 : BitVec 32 := Scalar.muli v7 c1_i32_2254
  let v1726 : BitVec 32 := Scalar.addi c0_i32_2255 v1725
  v1726.toNat
def k0_dev79 (d0 : Dev nD) : Nat :=
  let c0_i32_2302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2301 : BitVec 32 := 1#32
  let v1748 : BitVec 32 := Scalar.muli v7 c1_i32_2301
  let v1749 : BitVec 32 := Scalar.addi c0_i32_2302 v1748
  v1749.toNat
def k0_dev80 (d0 : Dev nD) : Nat :=
  let c0_i32_2353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2352 : BitVec 32 := 1#32
  let v1779 : BitVec 32 := Scalar.muli v5 c1_i32_2352
  let v1780 : BitVec 32 := Scalar.addi c0_i32_2353 v1779
  v1780.toNat
def k0_dev81 (d0 : Dev nD) : Nat :=
  let c0_i32_2404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2403 : BitVec 32 := 1#32
  let v1810 : BitVec 32 := Scalar.muli v7 c1_i32_2403
  let v1811 : BitVec 32 := Scalar.addi c0_i32_2404 v1810
  v1811.toNat
def k0_dev82 (d0 : Dev nD) : Nat :=
  let c0_i32_2455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2454 : BitVec 32 := 1#32
  let v1841 : BitVec 32 := Scalar.muli v5 c1_i32_2454
  let v1842 : BitVec 32 := Scalar.addi c0_i32_2455 v1841
  v1842.toNat
def k0_dev83 (d0 : Dev nD) : Nat :=
  let c0_i32_2523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2522 : BitVec 32 := 1#32
  let v1895 : BitVec 32 := Scalar.muli v7 c1_i32_2522
  let v1896 : BitVec 32 := Scalar.addi c0_i32_2523 v1895
  v1896.toNat
def k0_dev84 (d0 : Dev nD) : Nat :=
  let c0_i32_2574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2573 : BitVec 32 := 1#32
  let v1926 : BitVec 32 := Scalar.muli v5 c1_i32_2573
  let v1927 : BitVec 32 := Scalar.addi c0_i32_2574 v1926
  v1927.toNat
def k0_dev85 (d0 : Dev nD) : Nat :=
  let c0_i32_2625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2624 : BitVec 32 := 1#32
  let v1957 : BitVec 32 := Scalar.muli v7 c1_i32_2624
  let v1958 : BitVec 32 := Scalar.addi c0_i32_2625 v1957
  v1958.toNat
def k0_dev86 (d0 : Dev nD) : Nat :=
  let c0_i32_2676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2675 : BitVec 32 := 1#32
  let v1988 : BitVec 32 := Scalar.muli v5 c1_i32_2675
  let v1989 : BitVec 32 := Scalar.addi c0_i32_2676 v1988
  v1989.toNat
def k0_dev87 (d0 : Dev nD) : Nat :=
  let c0_i32_2840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2839 : BitVec 32 := 1#32
  let v2145 : BitVec 32 := Scalar.muli v7 c1_i32_2839
  let v2146 : BitVec 32 := Scalar.addi c0_i32_2840 v2145
  v2146.toNat
def k0_dev88 (d0 : Dev nD) : Nat :=
  let c0_i32_2850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2849 : BitVec 32 := 1#32
  let v2155 : BitVec 32 := Scalar.muli v5 c1_i32_2849
  let v2156 : BitVec 32 := Scalar.addi c0_i32_2850 v2155
  v2156.toNat
def k0_dev89 (d0 : Dev nD) : Nat :=
  let c0_i32_2904 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2903 : BitVec 32 := 1#32
  let v2199 : BitVec 32 := Scalar.muli v7 c1_i32_2903
  let v2200 : BitVec 32 := Scalar.addi c0_i32_2904 v2199
  v2200.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .bf16⟩
  | .local _ .vmem, ⟨0, _⟩ => ⟨S4096x4096, .bf16⟩
  | .local _ .vmem, ⟨1, _⟩ => ⟨S4096x8192, .bf16⟩
  | .local _ .vmem, ⟨2, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Text.lean ====
/-
  The kernel's body, written a second time by the loops of its source: rounds of the two rings, hops of a round, lanes of
  a hop. Every piece takes the rest of the program as its last argument, so a rule about a piece has the form of the
  library's rules for one operation. `body_eq` says that the printed body is this text.
-/
module

public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.ShloMosaic.TcCoe Idealize.SL.Sem

variable {F : FTy → Type} [FloatOps F]

/-- A program of one core that ends with nothing. -/
abbrev Pr (F : FTy → Type) := Prog (TpuEff nD τ sig (Elt F) Λ₀ .tc) PUnit

/-! ### The buffers and the semaphores -/

abbrev xM : Memref sig .tc .vmem S4096x1024 .bf16 := Memref.whole cc0_stg0_0
abbrev wM : Memref sig .tc .vmem S1024x8192 .bf16 := Memref.whole cc0_stg1_0
abbrev oM : Memref sig .tc .hbm S1024x8192 .bf16 := Memref.whole main_v1
abbrev yM : Memref sig .tc .vmem S1024x8192 .bf16 := Memref.whole cc0_scratch2
abbrev aM : Memref sig .tc .vmem S5x8x128 .f32 := Memref.whole cc0_scratch7

/-- The slots' buffer of a ring: the ring to the right is `false`, the ring to the left `true`. -/
def slRef : Bool → Ref sig .tc
  | false => cc0_scratch0
  | true => cc0_scratch1

/-- The slots of a ring as a memref. -/
def slM : Bool → Memref sig .tc .vmem S4x2x1024x512 .bf16
  | false => Memref.whole cc0_scratch0
  | true => Memref.whole cc0_scratch1

theorem slM_whole : ∀ ρ, (slM ρ).IsWhole
  | false => Memref.isWhole_whole _
  | true => Memref.isWhole_whole _

theorem lane_inb : ∀ (h : Fin 4) (s : Fin 2), ∀ a, (![h.val, s.val, 0, 0] : Fin 4 → Nat) a + S1x1x1024x512.size a ≤ S4x2x1024x512.size a := by
  decide

/-- Lane `s` of slot `h`. -/
abbrev laneRect (h : Fin 4) (s : Fin 2) : Rect S4x2x1024x512 :=
  Rect.unit (s := S4x2x1024x512) ![h.val, s.val, 0, 0] S1x1x1024x512.size (lane_inb h s)

theorem lane_words : ∀ (h : Fin 4) (s : Fin 2), (laneRect h s).WholeWords (EltTy.packing .bf16) := by decide

theorem lane_packed : ∀ (h : Fin 4) (s : Fin 2), (laneRect h s).PackedRows (EltTy.packing .bf16) := by decide

/-- Lane `s` of slot `h` of a ring, as the transfers name it. -/
abbrev laneM (ρ : Bool) (h : Fin 4) (s : Fin 2) : Memref sig .tc .vmem S1024x512 .bf16 :=
  ((slM ρ).slice (laneRect h s) (fun _ => rfl)).squeeze S1024x512 squeezes_S1x1x1024x512_S1024x512

theorem lane_exact (ρ : Bool) (h : Fin 4) (s : Fin 2) : (laneM ρ h s).view.WordExact :=
  ((slM_whole ρ).wordExact_slice rfl _ (lane_words h s)).reshape _ _

theorem hop_inb : ∀ (h : Fin 3) (s : Fin 2), ∀ a, (![h.val, s.val] : Fin 2 → Nat) a + S1x1.size a ≤ S3x2.size a := by decide

/-- The send semaphores of a ring. -/
def sendA : Bool → DmaSems sig S3x2
  | false => cc0_scratch3
  | true => cc0_scratch5

/-- The receive semaphores of a ring. -/
def recvA : Bool → DmaSems sig S3x2
  | false => cc0_scratch4
  | true => cc0_scratch6

/-- One cell of a 3 × 2 array of semaphores. -/
abbrev at32 (A : DmaSems sig S3x2) (h : Fin 3) (s : Fin 2) : DmaSem sig :=
  ((A.slice (Rect.unit (s := S3x2) ![h.val, s.val] S1x1.size (hop_inb h s))).squeeze S_ squeezes_S1x1_S_).sem

/-- The send semaphore of hop `h`, lane `s`. -/
abbrev sS (ρ : Bool) (h : Fin 3) (s : Fin 2) : DmaSem sig := at32 (sendA ρ) h s
/-- The receive semaphore of hop `h`, lane `s`. -/
abbrev sR (ρ : Bool) (h : Fin 3) (s : Fin 2) : DmaSem sig := at32 (recvA ρ) h s

/-- The credit semaphore of a ring. -/
def crS : Bool → Sem sig
  | false => (cc0_scratch11 : Sems sig S_).sem
  | true => (cc0_scratch12 : Sems sig S_).sem

/-- The barrier semaphore. -/
abbrev barS : Sem sig := (SemArray.scalar (sig.barrier 0 rfl) : Sems sig S_).sem

theorem ax3_inb : ∀ (i : Fin 3), ∀ a, (![i.val] : Fin 1 → Nat) a + S1.size a ≤ S3.size a := by decide

/-- One cell of an array of three semaphores. -/
abbrev at3 (A : DmaSems sig S3) (i : Fin 3) : DmaSem sig :=
  ((A.slice (Rect.unit (s := S3) ![i.val] S1.size (ax3_inb i))).squeeze S_ squeezes_S1_S_).sem

/-- The send semaphores of the exchange of the maxima. -/
abbrev aS (i : Fin 3) : DmaSem sig := at3 cc0_scratch8 i
/-- The receive semaphores of the exchange of the maxima. -/
abbrev aR (i : Fin 3) : DmaSem sig := at3 cc0_scratch9 i

theorem ax_inb : ∀ (i : Fin 5), ∀ a, (![i.val, 0, 0] : Fin 3 → Nat) a + S1x8x128.size a ≤ S5x8x128.size a := by decide

/-- Slot `i` of the exchange. -/
abbrev axRect (i : Fin 5) : Rect S5x8x128 := Rect.unit (s := S5x8x128) ![i.val, 0, 0] S1x8x128.size (ax_inb i)

/-- Slot `i` of the exchange, as the transfers name it. -/
abbrev axM (i : Fin 5) : Memref sig .tc .vmem S8x128 .f32 :=
  (aM.slice (axRect i) (fun _ => rfl)).squeeze S8x128 squeezes_S1x8x128_S8x128

theorem ax_exact (i : Fin 5) : (axM i).view.WordExact := (View.wordExact_bits rfl).reshape _ _

theorem o2_inb : ∀ (b s : Fin 2), ∀ a, (![b.val, s.val] : Fin 2 → Nat) a + S1x1.size a ≤ S2x2.size a := by decide

/-- The semaphore of the result's transfers from staging slot `b`, lane `s`. -/
abbrev oS (b s : Fin 2) : DmaSem sig :=
  ((cc0_scratch10.slice (Rect.unit (s := S2x2) ![b.val, s.val] S1x1.size (o2_inb b s))).squeeze S_ squeezes_S1x1_S_).sem

/-- A staging slot as a slot of the ring to the right. -/
abbrev up4 (b : Fin 2) : Fin 4 := ⟨b.val, by omega⟩

theorem ocol_inb : ∀ (t : Fin 8) (s : Fin 2), ∀ a, (![0, t.val * 1024 + s.val * 512] : Fin 2 → Nat) a + S1024x512.size a ≤ S1024x8192.size a := by
  decide

/-- The columns of tile `t`, lane `s`. -/
abbrev ocolRect (t : Fin 8) (s : Fin 2) : Rect S1024x8192 :=
  Rect.unit (s := S1024x8192) ![0, t.val * 1024 + s.val * 512] S1024x512.size (ocol_inb t s)

theorem ocol_words : ∀ (t : Fin 8) (s : Fin 2), (ocolRect t s).WholeWords (EltTy.packing .bf16) := by decide

theorem ocol_packed : ∀ (t : Fin 8) (s : Fin 2), (ocolRect t s).PackedRows (EltTy.packing .bf16) := by decide

/-- The columns of tile `t`, lane `s`, of the result. -/
abbrev ocolM (t : Fin 8) (s : Fin 2) : Memref sig .tc .hbm S1024x512 .bf16 := oM.slice (ocolRect t s) (fun _ => rfl)

theorem ocol_exact (t : Fin 8) (s : Fin 2) : (ocolM t s).view.WordExact :=
  (Memref.isWhole_whole main_v1).wordExact_slice rfl _ (ocol_words t s)

theorem tile_inb : ∀ (t : Fin 8), ∀ a, (![0, t.val * 1024] : Fin 2 → Nat) a + S1024x1024.size a ≤ S1024x8192.size a := by decide

/-- The columns of tile `t`. -/
abbrev tileRect (t : Fin 8) : Rect S1024x8192 := Rect.unit (s := S1024x8192) ![0, t.val * 1024] S1024x1024.size (tile_inb t)

/-- The tile that ring `ρ` computes in round `k`. -/
def tileOf : Bool → Fin 4 → Fin 8
  | false, k => ⟨k.val, by omega⟩
  | true, k => ⟨k.val + 4, by omega⟩

/-! ### The values -/

theorem lane_slices : ∀ s : Fin 2, S1024x1024.Slices ![0, s.val * 512] S1024x512
  | 0 => slices_S1024x1024_o0_0_S1024x512
  | 1 => slices_S1024x1024_o0_512_S1024x512

/-- A block of `x`'s rows times a tile of `w`'s columns, rounded. -/
def part (xs ws : Vec F S1024x1024 .bf16) : FVec F S1024x1024 .bf16 :=
  truncf .bf16 (matmul dot_S1024x1024_S1024x1024_S1024x1024_1_0_0_1_n_n none
    (shapeCast S1024x1024 xs shapeCasts_S1024x1024_S1024x1024 : FVec F S1024x1024 .bf16)
    (shapeCast S1024x1024 ws shapeCasts_S1024x1024_S1024x1024 : FVec F S1024x1024 .bf16)
    (constant S1024x1024 .f32 0x00000000#32)) bitsLt_bf16_f32

/-- Lane `s` of a tile. -/
def laneOf (s : Fin 2) (v : FVec F S1024x1024 .bf16) : FVec F S1024x512 .bf16 :=
  extractStridedSlice S1024x512 ![0, s.val * 512] v (lane_slices s)

/-- A lane as a slot holds it. -/
def toSlot (v : FVec F S1024x512 .bf16) : FVec F S1x1x1024x512 .bf16 :=
  shapeCast S1x1x1024x512 v shapeCasts_S1024x512_S1x1x1024x512

/-- What a slot holds as a lane. -/
def ofSlot (v : Vec F S1x1x1024x512 .bf16) : FVec F S1024x512 .bf16 :=
  shapeCast S1024x512 v shapeCasts_S1x1x1024x512_S1024x512

/-- What a device forwards: what it received and its own lane. -/
def fwd (s : Fin 2) (a : Vec F S1x1x1024x512 .bf16) (p : FVec F S1024x1024 .bf16) : FVec F S1x1x1024x512 .bf16 :=
  toSlot (addf (ofSlot a) (laneOf s p))

/-- A lane's sum over the four devices, from what arrived last and the device's own lane. -/
def ysum (s : Fin 2) (a : Vec F S1x1x1024x512 .bf16) (p : FVec F S1024x1024 .bf16) : FVec F S1024x512 .f32 :=
  addf (extf .f32 (ofSlot a) bitsLt_bf16_f32) (extf .f32 (laneOf s p) bitsLt_bf16_f32)

/-- A lane's sum as it is kept. -/
def ykeep (y : FVec F S1024x512 .f32) : FVec F S1024x512 .bf16 :=
  shapeCast S1024x512 (truncf .bf16 y bitsLt_bf16_f32) shapeCasts_S1024x512_S1024x512

/-- The running maximum after a lane. -/
def amax (am : F .f32) (y : FVec F S1024x512 .f32) : F .f32 :=
  Scalar.maximumf am (extractAt ![0, 0, 0] (shapeCast S1x1x1
    (multiReduction .maximumf [1, 2] S1 (shapeCast S1x1024x512 (absf y) shapeCasts_S1024x512_S1x1024x512)
      0xFF800000#32 reduces_S1x1024x512_S1 (.inl rfl) rfl : FVec F S1 .f32) shapeCasts_S1_S1x1x1 : FVec F S1x1x1 .f32) inpos_S1x1x1_p0_0_0)

/-- A maximum spread over a slot of the exchange. -/
def spread (am : F .f32) : FVec F S8x128 .f32 := broadcast S8x128 am

/-- The larger, element by element, of what a slot of the exchange holds and `own`. -/
def axMax (own : FVec F S8x128 .f32) (a : Vec F S1x8x128 .f32) : FVec F S8x128 .f32 :=
  maximumf (shapeCast S8x128 a shapeCasts_S1x8x128_S8x128) own

/-- What the exchange's slot takes. -/
def toAx (v : FVec F S8x128 .f32) : FVec F S1x8x128 .f32 := shapeCast S1x8x128 v shapeCasts_S8x128_S1x8x128

/-- The maximum over the four devices, from the last two slots of the exchange and the device's own maximum. -/
def gmax (own : FVec F S8x128 .f32) (a4 a2 : Vec F S1x8x128 .f32) : F .f32 :=
  extractAt ![0, 0, 0] (shapeCast S1x1x1
    (multiReduction .maximumf [1, 2] S1 (shapeCast S1x8x128
        (maximumf (shapeCast S8x128 a4 shapeCasts_S1x8x128_S8x128 : FVec F S8x128 .f32) (axMax own a2)) shapeCasts_S8x128_S1x8x128)
      0xFF800000#32 reduces_S1x8x128_S1 (.inl rfl) rfl : FVec F S1 .f32) shapeCasts_S1_S1x1x1 : FVec F S1x1x1 .f32) inpos_S1x1x1_p0_0_0

/-- The scale. -/
def scaleOf (g : F .f32) : F .f32 := Scalar.divf g (Scalar.ofBits .f32 0x43E00000#32)
/-- The factor that a sum is multiplied by before it is rounded. -/
def invOf (g : F .f32) : F .f32 := Scalar.divf (Scalar.ofBits .f32 0x43E00000#32) g

/-- A tile quantised and scaled back. -/
def quant (g : F .f32) (v : Vec F S1024x1024 .bf16) : FVec F S1024x1024 .bf16 :=
  truncf .bf16 (mulf (extf .f32 (truncf .fp8e4m3 (minimumf (broadcast S1024x1024 (Scalar.ofBits .f32 0x43E00000#32 : F .f32))
    (maximumf (broadcast S1024x1024 (Scalar.ofBits .f32 0xC3E00000#32 : F .f32))
      (mulf (extf .f32 v bitsLt_bf16_f32) (broadcast S1024x1024 (invOf g))))) bitsLt_fp8e4m3_f32 : FVec F S1024x1024 .fp8e4m3)
        bitsLt_fp8e4m3_f32 : FVec F S1024x1024 .f32)
    (broadcast S1024x1024 (scaleOf g))) bitsLt_bf16_f32

/-! ### The pieces of the text -/

/-- Where a device's blocks of `x` start, per ring and place in the ring's order. -/
abbrev XOff := Bool → Fin 4 → { o : Fin 2 → ℕ // ∀ a, o a + S1024x1024.size a ≤ S4096x1024.size a }

variable (nx : Bool → Dev nD) (xo : XOff)

/-- Load the `j`-th block of `x`'s rows and a tile of `w`, and multiply them. -/
def ldP (ρ : Bool) (k : Fin 4) (j : Fin 4) (K : FVec F S1024x1024 .bf16 → Pr F) : Pr F :=
  .op (.load xM (Rect.unit (s := S4096x1024) (xo ρ j).1 S1024x1024.size (xo ρ j).2).toLoadRect (View.loadsAt_vmem h_S1024x1024)) fun xs =>
  .op (.load wM (tileRect (tileOf ρ k)).toLoadRect (View.loadsAt_vmem h_S1024x1024)) fun ws =>
  K (part xs ws)

/-- Read a lane of a slot. -/
def ldLane (ρ : Bool) (h : Fin 4) (s : Fin 2) (K : Vec F S1x1x1024x512 .bf16 → Pr F) : Pr F :=
  .op (.load (slM ρ) (laneRect h s).toLoadRect (View.loadsAt_vmem h_S1x1x1024x512)) K

/-- Write a lane of a slot. -/
def stLane (ρ : Bool) (h : Fin 4) (s : Fin 2) (v : FVec F S1x1x1024x512 .bf16) (K : Pr F) : Pr F :=
  .op (.store (slM ρ) (laneRect h s) v Finset.univ
    (View.stores_vmem h_S1x1x1024x512 ((slM_whole ρ).storeExact_slice rfl _ (lane_packed h s)) (fun _ => rfl)) (.inl rfl)) fun _ => K

/-- Write both lanes of a slot. -/
def stLanes (ρ : Bool) (h : Fin 4) (v : FVec F S1024x1024 .bf16) (K : Pr F) : Pr F :=
  ldLane ρ h 0 fun _ => stLane ρ h 0 (toSlot (laneOf 0 v)) <|
  ldLane ρ h 1 fun _ => stLane ρ h 1 (toSlot (laneOf 1 v)) K

/-- Send slot `h` of a lane to the next device's slot `h + 1`. -/
def send (ρ : Bool) (h : Fin 3) (s : Fin 2) (K : Pr F) : Pr F :=
  .op (.enqueueDma (laneM ρ h.castSucc s) (.remote (Dev.tc (nx ρ)) (laneM ρ h.succ s) (.dma (sS ρ h s))) (.dma (sR ρ h s))
    (lane_exact ρ _ s) (lane_exact ρ _ s) ⟨⟨rfl, Or.inl rfl⟩, trivial⟩) fun _ => K

/-- Wait for the device's own transfer out of slot `h` and for the transfer into slot `h + 1`. -/
def waitHop (ρ : Bool) (h : Fin 3) (s : Fin 2) (K : Pr F) : Pr F :=
  .op (.waitDma2 (sS ρ h s) (laneM ρ h.succ s) (laneM ρ h.castSucc s) (lane_exact ρ _ s) (lane_exact ρ _ s)) fun _ =>
  .op (.waitDma2 (sR ρ h s) (laneM ρ h.castSucc s) (laneM ρ h.succ s) (lane_exact ρ _ s) (lane_exact ρ _ s)) fun _ => K

/-- Give the previous device of a ring a credit, if asked to. -/
def credit (ρ : Bool) : Bool → Pr F → Pr F
  | true, K => .op (.semSignal (nx (!ρ), .tc) (crS ρ) (1#32 : BitVec 32).toInt) fun _ => K
  | false, K => K

/-- Wait for a credit of a ring, if asked to. -/
def credWait (ρ : Bool) : Bool → Pr F → Pr F
  | true, K => .op (.semWait (crS ρ) (1#32 : BitVec 32).toInt) fun _ => K
  | false, K => K

/-- A lane's part of hop 0 or 1: what arrived is taken, the device's own lane added, and the sum sent on. -/
def hopMid (ρ : Bool) (h : Fin 2) (s : Fin 2) (cr cw : Bool) (p : FVec F S1024x1024 .bf16) (K : Pr F) : Pr F :=
  waitHop ρ h.castSucc s <| credit nx ρ cr <|
  ldLane ρ h.castSucc.succ s fun a => ldLane ρ h.castSucc.succ s fun _ => stLane ρ h.castSucc.succ s (fwd s a p) <|
  credWait ρ cw <| send nx ρ h.succ s K

/-- A lane's part of hop 2. -/
def hopEnd (ρ : Bool) (s : Fin 2) (cr : Bool) (K : Pr F) : Pr F := waitHop ρ 2 s <| credit nx ρ cr K

/-- Hop 0 or 1, both lanes of both rings. -/
def hopMids (h : Fin 2) (cr cw : Bool) (p q : FVec F S1024x1024 .bf16) (K : Pr F) : Pr F :=
  hopMid nx false h 0 cr cw p <| hopMid nx true h 0 cr cw q <| hopMid nx false h 1 cr cw p <| hopMid nx true h 1 cr cw q K

/-- The three hops of a round; the last blocks' products are handed on. -/
def hops (k : Fin 4) (cr cw : Bool) (p q : FVec F S1024x1024 .bf16) (K : FVec F S1024x1024 .bf16 → FVec F S1024x1024 .bf16 → Pr F) : Pr F :=
  hopMids nx 0 false cw p q <|
  ldP xo false k 2 fun p => ldP xo true k 2 fun q =>
  hopMids nx 1 cr cw p q <|
  ldP xo false k 3 fun p => ldP xo true k 3 fun q =>
  hopEnd nx false 0 cr <| hopEnd nx true 0 cr <| hopEnd nx false 1 cr <| hopEnd nx true 1 cr <| K p q

/-- The first blocks of a round, put into slot 0. -/
def fill (k : Fin 4) (K : Pr F) : Pr F :=
  ldP xo false k 0 fun p => stLanes false 0 p <| ldP xo true k 0 fun q => stLanes true 0 q K

/-- The transfers that start a round, and the products of the second blocks. -/
def kick (k : Fin 4) (cw : Bool) (K : FVec F S1024x1024 .bf16 → FVec F S1024x1024 .bf16 → Pr F) : Pr F :=
  credWait false cw <| send nx false 0 0 <| credWait true cw <| send nx true 0 0 <|
  credWait false cw <| send nx false 0 1 <| credWait true cw <| send nx true 0 1 <|
  ldP xo false k 1 fun p => ldP xo true k 1 fun q => K p q

/-- A lane's sum taken into the running maximum and kept. -/
def fin (ρ : Bool) (k : Fin 4) (s : Fin 2) (cr : Bool) (p : FVec F S1024x1024 .bf16) (am : F .f32) (K : F .f32 → Pr F) : Pr F :=
  ldLane ρ 3 s fun a =>
  .op (.load yM (ocolRect (tileOf ρ k) s).toLoadRect (View.loadsAt_vmem h_S1024x512)) fun _ =>
  .op (.store yM (ocolRect (tileOf ρ k) s) (ykeep (ysum s a p)) Finset.univ
    (View.stores_vmem h_S1024x512 ((Memref.isWhole_whole cc0_scratch2).storeExact_slice rfl _ (ocol_packed _ s)) (fun _ => rfl)) (.inl rfl)) fun _ =>
  credit nx ρ cr (K (amax am (ysum s a p)))

/-- The sums of a round. -/
def fins (k : Fin 4) (cr : Bool) (p q : FVec F S1024x1024 .bf16) (am : F .f32) (K : F .f32 → Pr F) : Pr F :=
  fin nx false k 0 cr p am fun am => fin nx true k 0 cr q am fun am =>
  fin nx false k 1 cr p am fun am => fin nx true k 1 cr q am K

/-- A round that another follows: its hops, the next round's first transfers, its sums. -/
def round (k k' : Fin 4) (cw : Bool) (p q : FVec F S1024x1024 .bf16) (am : F .f32)
    (K : FVec F S1024x1024 .bf16 → FVec F S1024x1024 .bf16 → F .f32 → Pr F) : Pr F :=
  hops nx xo k true cw p q fun p q => fill xo k' <| kick nx xo k' true fun p' q' => fins nx k true p q am fun am => K p' q' am

/-- Read a slot of the exchange. -/
def ldAx (i : Fin 5) (K : Vec F S1x8x128 .f32 → Pr F) : Pr F :=
  .op (.load aM (axRect i).toLoadRect (View.loadsAt_vmem h_S1x8x128)) K

/-- Write a slot of the exchange. -/
def stAx (i : Fin 5) (v : FVec F S1x8x128 .f32) (K : Pr F) : Pr F :=
  .op (.store aM (axRect i) v Finset.univ (View.stores_vmem_bits_univ h_S1x8x128 rfl) (.inl rfl)) fun _ => K

/-- Send slot `a` of the exchange to slot `b` of the next device of ring `ρ`. -/
def sendAx (ρ : Bool) (i : Fin 3) (a b : Fin 5) (K : Pr F) : Pr F :=
  .op (.enqueueDma (axM a) (.remote (Dev.tc (nx ρ)) (axM b) (.dma (aS i))) (.dma (aR i))
    (ax_exact a) (ax_exact b) ⟨⟨rfl, Or.inl rfl⟩, trivial⟩) fun _ => K

/-- Wait for both sides of a transfer of the exchange. -/
def waitAx (i : Fin 3) (a b : Fin 5) (K : Pr F) : Pr F :=
  .op (.waitDma2 (aS i) (axM b) (axM a) (ax_exact b) (ax_exact a)) fun _ =>
  .op (.waitDma2 (aR i) (axM a) (axM b) (ax_exact a) (ax_exact b)) fun _ => K

/-- The exchange of the maxima. -/
def exchange (am : F .f32) (K : F .f32 → Pr F) : Pr F :=
  ldAx 0 fun _ => stAx 0 (toAx (spread am)) <|
  sendAx nx false 0 0 1 <| sendAx nx true 1 0 2 <| waitAx 0 0 1 <| waitAx 1 0 2 <|
  ldAx 1 fun a1 => ldAx 3 fun _ => stAx 3 (toAx (axMax (spread am) a1)) <|
  sendAx nx false 2 3 4 <| waitAx 2 3 4 <|
  ldAx 4 fun a4 => ldAx 2 fun a2 => K (gmax (spread am) a4 a2)

/-- Copy a staged lane of tile `t` to the result. -/
def put (t : Fin 8) (b s : Fin 2) (K : Pr F) : Pr F :=
  .op (.enqueueDma (laneM false (up4 b) s) (.here (ocolM t s)) (.dma (oS b s)) (lane_exact false _ s) (ocol_exact t s) ⟨Or.inl rfl, trivial⟩) fun _ => K

/-- Wait for the copy of a lane of tile `t`. -/
def waitPut (t : Fin 8) (b s : Fin 2) (K : Pr F) : Pr F :=
  .op (.waitDma2 (oS b s) (laneM false (up4 b) s) (ocolM t s) (lane_exact false _ s) (ocol_exact t s)) fun _ => K

/-- Quantise tile `t` into staging slot `b` and start its copies. -/
def tile (g : F .f32) (t : Fin 8) (b : Fin 2) (K : Pr F) : Pr F :=
  .op (.load yM (tileRect t).toLoadRect (View.loadsAt_vmem h_S1024x1024)) fun v =>
  stLanes false (up4 b) (quant g v) <| put t b 0 <| put t b 1 K

/-- Wait for the copies of tile `t`. -/
def waitTile (t : Fin 8) (b : Fin 2) (K : Pr F) : Pr F := waitPut t b 0 <| waitPut t b 1 K

/-- The result, tile by tile. -/
def tiles (g : F .f32) (K : Pr F) : Pr F :=
  tile g 0 0 <| tile g 1 1 <| waitTile 0 0 <| tile g 2 0 <| waitTile 1 1 <| tile g 3 1 <|
  waitTile 2 0 <| tile g 4 0 <| waitTile 3 1 <| tile g 5 1 <| waitTile 4 0 <| tile g 6 0 <|
  waitTile 5 1 <| tile g 7 1 <| waitTile 6 0 <| waitTile 7 1 K

/-- The barrier at the kernel's entry. -/
def barrier (K : Pr F) : Pr F :=
  .op (.semSignal (nx true, .tc) barS (1#32 : BitVec 32).toInt) fun _ =>
  .op (.semSignal (nx false, .tc) barS (1#32 : BitVec 32).toInt) fun _ =>
  .op (.semWait barS (2#32 : BitVec 32).toInt) fun _ => K

/-- What a device runs once it knows its number. -/
def text : Pr F :=
  fill xo 0 <| barrier nx <| kick nx xo 0 false fun p q =>
  round nx xo 0 1 false p q (Scalar.ofBits .f32 0x00000000#32) fun p q am =>
  round nx xo 1 2 true p q am fun p q am =>
  round nx xo 2 3 true p q am fun p q am =>
  hops nx xo 3 false true p q fun p q =>
  fins nx 3 false p q am fun am =>
  exchange nx am fun g => tiles g (.ret ⟨⟩)

/-- The next device of a ring, as the printed text computes it. -/
def nxT (d : Dev nD) : Bool → Dev nD
  | false => ⟨k0_dev3 d, k0_dev3_lt d⟩
  | true => ⟨k0_dev4 d, k0_dev4_lt d⟩

/-- The blocks' places, as the printed text computes them. -/
def xoT (d : Dev nD) : XOff
  | false, 0 => ⟨k0_off1 d, k0_off1_inb d⟩
  | false, 1 => ⟨k0_off3 d 0#32, k0_off3_inb d 0⟩
  | false, 2 => ⟨k0_off3 d 1#32, k0_off3_inb d 1⟩
  | false, 3 => ⟨k0_off3 d 2#32, k0_off3_inb d 2⟩
  | true, 0 => ⟨k0_off2 d, k0_off2_inb d⟩
  | true, 1 => ⟨k0_off4 d 0#32, k0_off4_inb d 0⟩
  | true, 2 => ⟨k0_off4 d 1#32, k0_off4_inb d 1⟩
  | true, 3 => ⟨k0_off4 d 2#32, k0_off4_inb d 2⟩

end Cert.Proof

end
-- ==== Proof.Common.lean ====
/-
  The protocol of the kernel, as data: who is next on a ring, the values that travel, the cells of a device, the payments
  that a device makes in program order, what each payment hands over, and the levels of the waits.

  A device's payments are numbered by the program order, the same on every device, and a payment's level is its number:
  a device that waits for a payment has itself made the payment of that number, so all that it still owes lies above.
-/
module

public import proofs.«01_k».proof.Proof.Text
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Mathlib.Tactic.DeriveFintype

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

/-! ### The rings -/

/-- The next device of a ring. -/
def nx (c : Dev nD) : Bool → Dev nD
  | false => ⟨(c.val + 1) % 4, Nat.mod_lt _ (by decide)⟩
  | true => ⟨(c.val + 3) % 4, Nat.mod_lt _ (by decide)⟩

theorem nx_not (c : Dev nD) (ρ : Bool) : nx (nx c ρ) (!ρ) = c := by revert c ρ; decide
theorem nx_not' (c : Dev nD) (ρ : Bool) : nx (nx c (!ρ)) ρ = c := by revert c ρ; decide

theorem nxT_eq (c : Dev nD) : nxT c = nx c := funext fun
  | false => Fin.ext (k0_dev3_eq c)
  | true => Fin.ext (k0_dev4_eq c)

/-- The devices around ring `ρ`. -/
def around (ρ : Bool) : Dev nD ≃ Dev nD := ⟨fun c => nx c ρ, fun c => nx c (!ρ), fun c => nx_not c ρ, fun c => nx_not' c ρ⟩

/-! ### The values -/

section Values

variable (X : Dev nD → (cc0_stg0_0 : Ref sig .tc).ty.Contents (Elt F)) (V : Dev nD → (cc0_stg1_0 : Ref sig .tc).ty.Contents (Elt F))

/-- Device `c`'s product for round `k` of ring `ρ`, at the `j`-th block of the ring's order. -/
def P (c : Dev nD) (ρ : Bool) (k j : Fin 4) : FVec F S1024x1024 .bf16 :=
  part (xM.view.readAt (Elt F) (Rect.unit (s := S4096x1024) (xoT c ρ j).1 S1024x1024.size (xoT c ρ j).2).toLoadRect (X c))
    (wM.view.readAt (Elt F) (tileRect (tileOf ρ k)).toLoadRect (V c))

/-- What device `c` sends in hop `h`: its first block's lane, or what arrived before with its own lane added. -/
def outgo (ρ : Bool) (k : Fin 4) (s : Fin 2) : ℕ → Dev nD → FVec F S1x1x1024x512 .bf16
  | 0, c => toSlot (laneOf s (P X V c ρ k 0))
  | h + 1, c => fwd s (outgo ρ k s h (nx c (!ρ))) (P X V c ρ k (Fin.ofNat 4 (h + 1)))

/-- What device `c` receives in hop `h`. -/
def income (ρ : Bool) (k : Fin 4) (s : Fin 2) (h : ℕ) (c : Dev nD) : FVec F S1x1x1024x512 .bf16 := outgo X V ρ k s h (nx c (!ρ))

/-- A lane of the sum over the devices. -/
def yv (c : Dev nD) (ρ : Bool) (k : Fin 4) (s : Fin 2) : FVec F S1024x512 .f32 := ysum s (income X V ρ k s 2 c) (P X V c ρ k 3)

/-- The running maximum after `n` lanes in program order: per round, lane 0 of both rings, lane 1 of both rings. -/
def amN (c : Dev nD) : ℕ → F .f32
  | 0 => Scalar.ofBits .f32 0x00000000#32
  | n + 1 => amax (amN c n) (yv X V c (n % 2 == 1) (Fin.ofNat 4 (n / 4)) (Fin.ofNat 2 (n / 2)))

/-- A device's maximum. -/
def amD (c : Dev nD) : F .f32 := amN X V c 16

/-- What slot `i` of the exchange holds when it is full: 0 the device's own maximum, 1 the left neighbour's, 2 the right
    neighbour's, 3 the larger of the own and the left neighbour's, 4 what the left neighbour had in its slot 3. -/
def axV (c : Dev nD) : Fin 5 → FVec F S1x8x128 .f32
  | 0 => toAx (spread (amD X V c))
  | 1 => toAx (spread (amD X V (nx c true)))
  | 2 => toAx (spread (amD X V (nx c false)))
  | 3 => toAx (axMax (spread (amD X V c)) (toAx (spread (amD X V (nx c true)))))
  | 4 => toAx (axMax (spread (amD X V (nx c true))) (toAx (spread (amD X V (nx (nx c true) true)))))

/-- The maximum over the devices, as device `c` computes it. -/
def gD (c : Dev nD) : F .f32 := gmax (spread (amD X V c)) (axV X V c 4) (axV X V c 2)

/-- Which ring computes tile `t`, and in which round. -/
def ringOf (t : Fin 8) : Bool := decide (4 ≤ t.val)
def roundOf (t : Fin 8) : Fin 4 := Fin.ofNat 4 t.val

/-- A lane of tile `t` of the sum as it is kept. -/
def yk (c : Dev nD) (t : Fin 8) (s : Fin 2) : FVec F S1024x512 .bf16 := ykeep (yv X V c (ringOf t) (roundOf t) s)

/-- A tile from its two lanes. -/
def join (a b : Vec F S1024x512 .bf16) : Vec F S1024x1024 .bf16 := fun i =>
  if h : (i 1).val < 512 then a (fun | 0 => i 0 | 1 => ⟨(i 1).val, h⟩) else b (fun | 0 => i 0 | 1 => ⟨(i 1).val - 512, by have h1 : (i 1).val < 1024 := (i 1).isLt; show _ < 512; omega⟩)

/-- Tile `t` quantised. -/
def qD (c : Dev nD) (t : Fin 8) : FVec F S1024x1024 .bf16 := quant (gD X V c) (join (yk X V c t 0) (yk X V c t 1))

end Values

/-! ### The cells of a device -/

/-- The semaphores of a device. -/
inductive CK
  | bar
  | crd (ρ : Bool)
  | snd (ρ : Bool) (h : Fin 3) (s : Fin 2)
  | rcv (ρ : Bool) (h : Fin 3) (s : Fin 2)
  | axs (i : Fin 3)
  | axr (i : Fin 3)
  | out (b s : Fin 2)
  deriving DecidableEq, Fintype

/-- The semaphore of each kind. -/
def semOf : CK → SemLoc sig
  | .bar => .reg barS
  | .crd ρ => .reg (crS ρ)
  | .snd ρ h s => .dma (sS ρ h s)
  | .rcv ρ h s => .dma (sR ρ h s)
  | .axs i => .dma (aS i)
  | .axr i => .dma (aR i)
  | .out b s => .dma (oS b s)

theorem semOf_inj : Function.Injective semOf := by decide +kernel

/-- The kind of a semaphore. -/
def kindOf (sm : SemLoc sig) : Option CK := Function.partialInv semOf sm

theorem kindOf_semOf (k : CK) : kindOf (semOf k) = some k := Function.partialInv_left semOf_inj k

/-- Device `c`'s cell of a kind. -/
abbrev cell (c : Dev nD) (k : CK) : GSem nD τ sig := ((c : Thread nD τ), semOf k)

theorem cell_inj {c c' : Dev nD} {k k' : CK} (h : cell c k = cell c' k') : c = c' ∧ k = k' :=
  ⟨congrArg (fun g : GSem nD τ sig => g.1.1) h, semOf_inj (congrArg Prod.snd h)⟩

/-- The bytes that a lane's transfer counts. -/
def NL : ℕ := (laneM false 0 0).view.dmaCredit
/-- The bytes that a transfer of the exchange counts. -/
def NA : ℕ := (axM 0).view.dmaCredit
/-- The bytes that a copy to the result counts. -/
def NO : ℕ := (ocolM 0 0).view.dmaCredit

theorem lane_credit : ∀ (ρ : Bool) (h : Fin 4) (s : Fin 2), (laneM ρ h s).view.dmaCredit = NL
  | false, _, _ => rfl
  | true, _, _ => rfl
theorem ax_credit (i : Fin 5) : (axM i).view.dmaCredit = NA := rfl
theorem ocol_credit (t : Fin 8) (s : Fin 2) : (ocolM t s).view.dmaCredit = NO := rfl
theorem NL_pos : 0 < NL := View.dmaCredit_pos _ (by decide)
theorem NA_pos : 0 < NA := View.dmaCredit_pos _ (by decide)
theorem NO_pos : 0 < NO := View.dmaCredit_pos _ (by decide)

/-! ### The payments -/

/-- The payments of a device to its neighbours: the barrier's signals, the hops' transfers, the credits, the exchange's
    transfers. -/
inductive Ev
  | bar (ρ : Bool)
  | snd (ρ : Bool) (k : Fin 4) (h : Fin 3) (s : Fin 2)
  | crd (ρ : Bool) (k : Fin 3) (h : Fin 3) (s : Fin 2)
  | ax (i : Fin 3)
  deriving DecidableEq

namespace Ev

/-- The ring along which a payment goes. -/
def dir : Ev → Bool
  | .bar ρ => !ρ
  | .snd ρ _ _ _ => ρ
  | .crd ρ _ _ _ => !ρ
  | .ax i => decide (i = 1)

/-- The kind of the cell that it is paid to. -/
def ck : Ev → CK
  | .bar _ => .bar
  | .snd ρ _ h s => .rcv ρ h s
  | .crd ρ _ _ _ => .crd ρ
  | .ax i => .axr i

/-- The place of a credit among the credits of its ring. -/
def place (k : Fin 3) (h : Fin 3) (s : Fin 2) : ℕ := 6 * k.val + 2 * h.val + s.val

/-- The round of the cell that it belongs to. -/
def rd : Ev → ℕ
  | .snd _ k _ _ => k.val
  | _ => 0

/-- The duty that it pays. -/
def duty : Ev → ℕ
  | .bar ρ => if ρ then 1 else 0
  | .crd _ k h s => place k h s
  | _ => 0

/-- The amount. -/
def amt : Ev → ℕ
  | .bar _ => 1
  | .snd .. => NL
  | .crd .. => 1
  | .ax _ => NA

end Ev

/-- Something for each lane of each ring, in program order. -/
def lanes (f : Bool → Fin 2 → List Ev) : List Ev := f false 0 ++ f true 0 ++ f false 1 ++ f true 1

/-- A credit that a device gives in round `k`, if another round follows. -/
def crdIf (ρ : Bool) (k : Fin 4) (h : Fin 3) (s : Fin 2) : List Ev := if h' : k.val < 3 then [.crd ρ ⟨k.val, h'⟩ h s] else []

/-- The payments of a round. -/
def evRound (k : Fin 4) : List Ev :=
  lanes (fun ρ s => [.snd ρ k 1 s]) ++ lanes (fun ρ s => crdIf ρ k 0 s ++ [.snd ρ k 2 s]) ++ lanes (fun ρ s => crdIf ρ k 1 s)
    ++ (if h : k.val < 3 then lanes (fun ρ s => [.snd ρ ⟨k.val + 1, by omega⟩ 0 s]) else []) ++ lanes (fun ρ s => crdIf ρ k 2 s)

/-- A device's payments in program order. -/
def evs : List Ev :=
  [.bar false, .bar true] ++ lanes (fun ρ s => [.snd ρ 0 0 s]) ++ evRound 0 ++ evRound 1 ++ evRound 2 ++ evRound 3 ++ [.ax 0, .ax 1, .ax 2]

/-- The credit of the round before that a device waits for before it sends in round `k`. -/
def wtIf (ρ : Bool) (k : Fin 4) (h : Fin 3) (s : Fin 2) : List Ev :=
  if h' : 0 < k.val then [.crd ρ ⟨k.val - 1, by omega⟩ h s] else []

/-- The payments that a device waits for in a round. -/
def wtRound (k : Fin 4) : List Ev :=
  lanes (fun ρ s => wtIf ρ k 0 s) ++ lanes (fun ρ s => [.snd ρ k 0 s] ++ wtIf ρ k 1 s) ++ lanes (fun ρ s => [.snd ρ k 1 s] ++ wtIf ρ k 2 s)
    ++ lanes (fun ρ s => [.snd ρ k 2 s])

/-- The payments that a device waits for, in program order. -/
def wts : List Ev :=
  [.bar false, .bar true] ++ wtRound 0 ++ wtRound 1 ++ wtRound 2 ++ wtRound 3 ++ [.ax 0, .ax 1, .ax 2]

/-- The `i`-th payment. -/
def evAt (i : ℕ) : Ev := evs.getD i (.bar false)
/-- The `i`-th payment waited for. -/
def wtAt (i : ℕ) : Ev := wts.getD i (.bar false)

/-- The level of a payment: its number, the barrier's two alike. -/
def ixE (e : Ev) : ℕ := max 1 (evs.idxOf e)

theorem evs_length : evs.length = 89 := by decide +kernel
theorem wts_length : wts.length = 89 := by decide +kernel
theorem evs_nodup : evs.Nodup := by decide +kernel
theorem wts_nodup : wts.Nodup := by decide +kernel
theorem wts_sub : ∀ e ∈ wts, e ∈ evs := by decide +kernel
theorem evs_sub : ∀ e ∈ evs, e ∈ wts := by decide +kernel
theorem ixE_evAt : ∀ i : Fin 89, ixE (evAt i.val) = max 1 i.val := by decide +kernel

/-! ### The algebra -/

/-- The slots that a ring's hops land in: device, ring, hop, lane. -/
abbrev Key : Type := Dev nD × Bool × Fin 3 × Fin 2

abbrev UB : Type := URounds (GSem nD τ sig) ℕ × USlots Key
abbrev UU : Type := UR sig nD τ × UB

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := (Emb.inl : Emb _ UB).trans embR
def ES : Emb (USlots Key) (MT nD τ sig ℕ (Elt F) ℕ UU ℕ) := (Emb.inr : Emb _ UB).trans embR

instance ER_landsIn : (ER (F := F)).LandsIn (upEmb : UEmb _ (MT nD τ sig ℕ (Elt F) ℕ UU ℕ)) := by unfold ER; infer_instance
instance ES_landsIn : (ES (F := F)).LandsIn (upEmb : UEmb _ (MT nD τ sig ℕ (Elt F) ℕ UU ℕ)) := by unfold ES; infer_instance

/-! ### What the cells hand over -/

section Pay

variable (X : Dev nD → (cc0_stg0_0 : Ref sig .tc).ty.Contents (Elt F)) (V : Dev nD → (cc0_stg1_0 : Ref sig .tc).ty.Contents (Elt F))

/-- Device `c` has lane `s` of slot `h` of a ring, at any contents. -/
def laneAny (c : Dev nD) (ρ : Bool) (h : Fin 4) (s : Fin 2) : sProp 𝕄 :=
  slot ((laneM ρ h s).view.loc (c : Thread nD τ)) (laneM ρ h s).view.set

/-- Device `c` has lane `s` of slot `h` of a ring, holding `v`. -/
def laneAt (c : Dev nD) (ρ : Bool) (h : Fin 4) (s : Fin 2) (v : FVec F S1x1x1024x512 .bf16) : sProp 𝕄 :=
  iprop(∃ f, ⌜((slM ρ).access (laneRect h s)).read (Elt F) f = v⌝
    ∗ ((laneM ρ h s).view.loc (c : Thread nD τ) ↦[(laneM ρ h s).view.set]{fullShare} f))

/-- Device `c` has slot `i` of the exchange, at any contents. -/
def axAny (c : Dev nD) (i : Fin 5) : sProp 𝕄 := slot ((axM i).view.loc (c : Thread nD τ)) (axM i).view.set

/-- Device `c` has a share of slot `i` of the exchange, holding `v`. -/
def axAt (c : Dev nD) (i : Fin 5) (q : PosShare TreeShare) (v : FVec F S1x8x128 .f32) : sProp 𝕄 :=
  iprop(∃ f, ⌜(aM.access (axRect i)).read (Elt F) f = v⌝ ∗ ((axM i).view.loc (c : Thread nD τ) ↦[(axM i).view.set]{q} f))

/-- Device `c` has lane `s` of tile `t` of the result, at any contents. -/
def ocAny (c : Dev nD) (t : Fin 8) (s : Fin 2) : sProp 𝕄 := slot ((ocolM t s).view.loc (c : Thread nD τ)) (ocolM t s).view.set

/-- Device `c` has lane `s` of tile `t` of the result, holding `v`. -/
def ocAt (c : Dev nD) (t : Fin 8) (s : Fin 2) (v : FVec F S1024x512 .bf16) : sProp 𝕄 :=
  iprop(∃ f, ⌜(ocolM t s).view.read (Elt F) f = v⌝ ∗ ((ocolM t s).view.loc (c : Thread nD τ) ↦[(ocolM t s).view.set]{fullShare} f))

/-- Device `d` has given up the slot that hop `h`, lane `s` of ring `ρ` lands in for the `r`-th time (`r` from 0), and has
    taken what landed before. -/
def clear (d : Dev nD) (ρ : Bool) (h : Fin 3) (s : Fin 2) (r : ℕ) : sProp 𝕄 :=
  iprop(released ES (d, ρ, h, s) (r + 1) ∗ reached ER (cell d (.rcv ρ h s)) r)

/-- What the `e`-th credit of a ring says. -/
def piece (d : Dev nD) (ρ : Bool) (e : ℕ) : sProp 𝕄 :=
  clear d ρ (Fin.ofNat 3 (e % 6 / 2)) (Fin.ofNat 2 (e % 2)) (e / 6 + 1)

/-- What all credits below `n` say. -/
def pieces (d : Dev nD) (ρ : Bool) (n : ℕ) : sProp 𝕄 := bigSep (Finset.range n) (piece (F := F) d ρ)

/-- What device `d` says at the barrier of a ring's slots. -/
def openSlots (d : Dev nD) (ρ : Bool) : sProp 𝕄 :=
  bigSep (Finset.univ : Finset (Fin 3 × Fin 2)) fun x => clear (F := F) d ρ x.1 x.2 0

/-- What device `d` gives away of the exchange at the barrier: to the left the slots that the left neighbour fills, to
    the right the slot that the right neighbour fills. -/
def openAx (d : Dev nD) : Bool → sProp 𝕄
  | false => iprop(axAny (F := F) d 1 ∗ axAny d 4)
  | true => axAny d 2

/-- The slot of the exchange that a transfer reads, the slot that it fills and the share that it reads with. -/
def axSrc (i : Fin 3) : Fin 5 := if i = 2 then 3 else 0
def axDst (i : Fin 3) : Fin 5 := ![1, 2, 4] i
def axQ (i : Fin 3) : PosShare TreeShare := ![fullShare.left, fullShare.right, fullShare] i

/-- The tile of the `r`-th copy out of staging slot `b`. -/
def putTile (b : Fin 2) (r : ℕ) : Fin 8 := Fin.ofNat 8 (2 * r + b.val)

/-- What a duty hands to the device whose cell it is. -/
def payK (c : Dev nD) (r d : ℕ) : CK → sProp 𝕄
  | .bar => iprop(openSlots (nx c (d == 1)) (d == 1) ∗ openAx (nx c (d == 1)) (d == 1))
  | .crd ρ => pieces (nx c ρ) ρ (d + 1)
  | .snd ρ h s => laneAny c ρ h.castSucc s
  | .rcv ρ h s => laneAt c ρ h.succ s (income X V ρ (Fin.ofNat 4 r) s h.val c)
  | .axs i => axAt c (axSrc i) (axQ i) (axV X V c (axSrc i))
  | .axr i => axAt c (axDst i) fullShare (axV X V c (axDst i))
  | .out b s => iprop(ocAt c (putTile b r) s (ofSlot (toSlot (laneOf s (qD X V c (putTile b r))))) ∗ laneAny c false (up4 b) s)

/-- The duties of a round. -/
def dutiesK (r : ℕ) : CK → Finset ℕ
  | .bar => if r = 0 then {0, 1} else ∅
  | .crd _ => if r = 0 then Finset.range 18 else ∅
  | .axs _ => if r = 0 then {0} else ∅
  | .axr _ => if r = 0 then {0} else ∅
  | _ => if r < 4 then {0} else ∅

/-- The amount of a duty. -/
def amtK : CK → ℕ
  | .bar => 1
  | .crd _ => 1
  | .snd .. => NL
  | .rcv .. => NL
  | .axs _ => NA
  | .axr _ => NA
  | .out .. => NO

theorem amtK_pos (k : CK) : 0 < amtK k := by cases k <;> first | exact Nat.one_pos | exact NL_pos | exact NA_pos | exact NO_pos

instance laneAny_storable (c : Dev nD) (ρ : Bool) (h : Fin 4) (s : Fin 2) : BI.Storable (upEmb : UEmb _ 𝕄) (laneAny (F := F) c ρ h s) := by
  unfold laneAny; infer_instance
instance laneAt_storable (c : Dev nD) (ρ : Bool) (h : Fin 4) (s : Fin 2) (v) : BI.Storable (upEmb : UEmb _ 𝕄) (laneAt (F := F) c ρ h s v) := by
  unfold laneAt; infer_instance
instance axAny_storable (c : Dev nD) (i : Fin 5) : BI.Storable (upEmb : UEmb _ 𝕄) (axAny (F := F) c i) := by unfold axAny; infer_instance
instance axAt_storable (c : Dev nD) (i : Fin 5) (q) (v) : BI.Storable (upEmb : UEmb _ 𝕄) (axAt (F := F) c i q v) := by unfold axAt; infer_instance
instance ocAt_storable (c : Dev nD) (t : Fin 8) (s : Fin 2) (v) : BI.Storable (upEmb : UEmb _ 𝕄) (ocAt (F := F) c t s v) := by
  unfold ocAt; infer_instance
instance clear_storable (d : Dev nD) (ρ : Bool) (h : Fin 3) (s : Fin 2) (r : ℕ) : BI.Storable (upEmb : UEmb _ 𝕄) (clear (F := F) d ρ h s r) := by
  unfold clear; infer_instance
instance pieces_storable (d : Dev nD) (ρ : Bool) (n : ℕ) : BI.Storable (upEmb : UEmb _ 𝕄) (pieces (F := F) d ρ n) := by
  unfold pieces piece; infer_instance
instance openSlots_storable (d : Dev nD) (ρ : Bool) : BI.Storable (upEmb : UEmb _ 𝕄) (openSlots (F := F) d ρ) := by
  unfold openSlots; infer_instance
instance openAx_storable (d : Dev nD) (ρ : Bool) : BI.Storable (upEmb : UEmb _ 𝕄) (openAx (F := F) d ρ) := by
  cases ρ <;> (unfold openAx; infer_instance)

instance clear_persistent (d : Dev nD) (ρ : Bool) (h : Fin 3) (s : Fin 2) (r : ℕ) : BI.Persistent (clear (F := F) d ρ h s r) := by
  unfold clear; infer_instance
instance piece_persistent (d : Dev nD) (ρ : Bool) (e : ℕ) : BI.Persistent (piece (F := F) d ρ e) := by unfold piece; infer_instance
instance pieces_persistent (d : Dev nD) (ρ : Bool) (n : ℕ) : BI.Persistent (pieces (F := F) d ρ n) := by unfold pieces; infer_instance
instance openSlots_persistent (d : Dev nD) (ρ : Bool) : BI.Persistent (openSlots (F := F) d ρ) := by unfold openSlots; infer_instance

instance payK_storable (c : Dev nD) (r d : ℕ) (k : CK) : BI.Storable (upEmb : UEmb _ 𝕄) (payK X V c r d k) := by
  cases k <;> (dsimp only [payK]; infer_instance)

/-- The schedule of every cell. -/
def Rd : Rounds.Schedule (GSem nD τ sig) ℕ 𝕄 where
  duties g r := match kindOf g.2 with | some k => dutiesK r k | none => ∅
  unitless _ := False
  amount g _ _ := match kindOf g.2 with | some k => amtK k | none => 1
  payload g r d := match kindOf g.2 with | some k => payK X V g.1.1 r d k | none => iprop(emp)
  amount_pos g _ _ _ := by
    cases kindOf g.2 with
    | none => exact Nat.one_pos
    | some k => exact amtK_pos k

instance Rd_storable (g : GSem nD τ sig) (r d : ℕ) : BI.Storable (upEmb : UEmb _ 𝕄) ((Rd X V).payload g r d) := by
  show BI.Storable upEmb (match kindOf g.2 with | some k => payK X V g.1.1 r d k | none => iprop(emp))
  cases kindOf g.2 <;> infer_instance

theorem Rd_duties (c : Dev nD) (k : CK) (r : ℕ) : (Rd X V).duties (cell c k) r = dutiesK r k := by
  dsimp only [Rd]; rw [kindOf_semOf]
theorem Rd_amount (c : Dev nD) (k : CK) (r d : ℕ) : (Rd X V).amount (cell c k) r d = amtK k := by
  dsimp only [Rd]; rw [kindOf_semOf]
theorem Rd_payload (c : Dev nD) (k : CK) (r d : ℕ) : (Rd X V).payload (cell c k) r d = payK X V c r d k := by
  dsimp only [Rd]; rw [kindOf_semOf]

/-- A round in which a cell has the one duty 0 expects its amount. -/
theorem expect_one (c : Dev nD) (k : CK) (r : ℕ) (h : dutiesK r k = {0}) : (Rd X V).expect (cell c k) r = amtK k := by
  unfold Schedule.expect Schedule.amountOf
  rw [Rd_duties, h, Finset.sum_singleton, Rd_amount]
theorem expect_bar (c : Dev nD) : (Rd X V).expect (cell c .bar) 0 = 2 := by
  unfold Schedule.expect Schedule.amountOf
  rw [Rd_duties, Finset.sum_congr rfl fun d _ => Rd_amount X V c .bar 0 d]
  show ∑ _ ∈ ({0, 1} : Finset ℕ), 1 = 2
  rfl
theorem expect_crd (c : Dev nD) (ρ : Bool) : (Rd X V).expect (cell c (.crd ρ)) 0 = 18 := by
  unfold Schedule.expect Schedule.amountOf
  rw [Rd_duties, Finset.sum_congr rfl fun d _ => Rd_amount X V c (.crd ρ) 0 d]
  show ∑ _ ∈ Finset.range 18, 1 = 18
  rw [Finset.sum_const, Finset.card_range]; rfl

theorem duties_late (c : Dev nD) (k : CK) (r : ℕ) (h : 4 ≤ r) : (Rd X V).duties (cell c k) r = ∅ := by
  rw [Rd_duties]; cases k <;> (dsimp only [dutiesK]; rw [if_neg (by omega)])

end Pay

/-! ### What a device owes, and the levels -/

/-- The device that a payment goes to. -/
abbrev Ev.tgt (c : Dev nD) (e : Ev) : Dev nD := nx c e.dir

/-- What a payment adds to what a device owes. -/
def due (c : Dev nD) (e : Ev) : CellTallies nD τ sig ℕ := tallyAt (cell (e.tgt c) e.ck) (ixE e) e.amt

/-- What device `c` owes when `n` of its payments are made. -/
def Ov (c : Dev nD) (n : ℕ) : CellTallies nD τ sig ℕ := ∑ i ∈ Finset.Ico n 89, due c (evAt i)

theorem Ico_split {n N : ℕ} (h : n < N) : Finset.Ico n N = insert n (Finset.Ico (n + 1) N) := by
  ext x; simp only [Finset.mem_insert, Finset.mem_Ico]; omega

theorem Ov_step (c : Dev nD) {n : ℕ} (h : n < 89) : Ov c n = Ov c (n + 1) + due c (evAt n) := by
  unfold Ov; rw [Ico_split h, Finset.sum_insert (by simp), add_comm]
theorem Ov_end (c : Dev nD) : Ov c 89 = 0 := by unfold Ov; rw [Finset.Ico_self, Finset.sum_empty]

def Lset (g : GSem nD τ sig) : Finset ℕ := if g.1.2 = .tc then Finset.range 100 else ∅
def lvl (_ : GSem nD τ sig) (i : ℕ) : ℕ := i

theorem Lset_of_ne (g : GSem nD τ sig) (h : g.1.2 ≠ .tc) : Lset g = ∅ := if_neg h
theorem mem_Lset (c : Dev nD) (sm : SemLoc sig) {i : ℕ} (h : i < 100) : i ∈ Lset ((c : Thread nD τ), sm) := by
  unfold Lset; rw [if_pos rfl]; exact Finset.mem_range.mpr h

/-- What is owed after `n` payments is owed to cells of the TensorCores, at levels from `n` up. -/
theorem Ov_pos {c : Dev nD} {n : ℕ} {g : GSem nD τ sig} {i : ℕ} (h : 0 < Ov c n g i) : i ∈ Lset g ∧ max 1 n ≤ i := by
  unfold Ov at h
  rw [Finset.sum_apply, Finsupp.finset_sum_apply] at h
  obtain ⟨j, hj, hp⟩ := Finset.exists_ne_zero_of_sum_ne_zero h.ne'
  unfold due at hp
  rw [tallyAt_apply] at hp
  have hg : g = cell ((evAt j).tgt c) (evAt j).ck ∧ i = ixE (evAt j) := by
    by_contra hn; exact hp (if_neg hn)
  have hj' := Finset.mem_Ico.mp hj
  have hi : i = max 1 j := hg.2.trans (ixE_evAt ⟨j, hj'.2⟩)
  refine ⟨?_, by omega⟩
  rw [hg.1]; exact mem_Lset _ _ (by omega)

/-- A wait at a level below what is owed. -/
theorem mayOwe (c : Dev nD) (sm : SemLoc sig) {i n : ℕ} (h : i < max 1 n) (h' : i < 100) :
    (levAts Lset lvl : sProp 𝕄) ⊢ MayOwe (c : Thread nD τ) {(sm, i)} (Ov c n) :=
  MayOwe.of_cut i (fun p hp => by rw [Finset.mem_singleton.mp hp]; exact mem_Lset c sm h') (fun g j hg => (Ov_pos hg).1)
    (fun p hp => by rw [Finset.mem_singleton.mp hp]; exact le_refl _) (fun g j hg => lt_of_lt_of_le h (Ov_pos hg).2)

end Cert.Proof

end
-- ==== Proof.Steps.lean ====
/-
  The steps of the kernel's text, one lemma for each piece: what a device holds before it and after it.
-/
module

public import proofs.«01_k».proof.Proof.Common

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

abbrev 𝒱₀ : Variants := Variants.none

/-- What it takes to run a program on a device. -/
abbrev Wp (c : Dev nD) (p : Pr F) (Q : PUnit → sProp 𝕄) : sProp 𝕄 :=
  wp frame (wpE (defs₀ (F := F)) 𝒱₀ (c : Thread nD τ) none) Set.univ p Q

variable (X : Dev nD → (cc0_stg0_0 : Ref sig .tc).ty.Contents (Elt F)) (V : Dev nD → (cc0_stg1_0 : Ref sig .tc).ty.Contents (Elt F))
variable (κ : Dev nD × CK → ℕ) (ν : Key → ℕ)

/-! ### What everybody knows -/

/-- A landing slot's contents pass through its invariant at any contents. -/
abbrev keySlot (x : Key) : sProp 𝕄 := laneAny (F := F) x.1 x.2.1 x.2.2.1.succ x.2.2.2

/-- The invariants of all cells and slots, that every cell is at its start, and the levels. -/
def Ctx : sProp 𝕄 :=
  iprop((bigSep (Finset.univ : Finset (Dev nD × CK)) fun p => cellInv ER (Rd X V) (κ p) (cell p.1 p.2))
    ∗ (bigSep (Finset.univ : Finset Key) fun x => slotInv ES (ν x) x (keySlot (F := F) x))
    ∗ (bigSep (Finset.univ : Finset (Dev nD × CK)) fun p => reached ER (cell p.1 p.2) 0)
    ∗ levAts Lset lvl)

instance Ctx_persistent : BI.Persistent (Ctx X V κ ν) := by unfold Ctx; infer_instance

theorem Ctx_inv (c : Dev nD) (k : CK) : Ctx X V κ ν ⊢ cellInv ER (Rd X V) (κ (c, k)) (cell c k) := by
  unfold Ctx; iintro ⟨H, -⟩
  have e : (bigSep (Finset.univ : Finset (Dev nD × CK)) fun p => cellInv ER (Rd X V) (κ p) (cell p.1 p.2))
      ⊢ cellInv ER (Rd X V) (κ (c, k)) (cell c k) := bigSep_elim (Finset.mem_univ (c, k))
  iapply e; iexact H

theorem Ctx_slot (x : Key) : Ctx X V κ ν ⊢ slotInv ES (ν x) x (keySlot (F := F) x) := by
  unfold Ctx; iintro ⟨-, H, -⟩
  have e : (bigSep (Finset.univ : Finset Key) fun x => slotInv ES (ν x) x (keySlot (F := F) x)) ⊢ slotInv ES (ν x) x (keySlot (F := F) x) :=
    bigSep_elim (Finset.mem_univ x)
  iapply e; iexact H

theorem Ctx_reached (c : Dev nD) (k : CK) : Ctx X V κ ν ⊢ reached ER (cell c k) 0 := by
  unfold Ctx; iintro ⟨-, -, H, -⟩
  have e : (bigSep (Finset.univ : Finset (Dev nD × CK)) fun p => (reached ER (cell p.1 p.2) 0 : sProp 𝕄)) ⊢ reached ER (cell c k) 0 :=
    bigSep_elim (Finset.mem_univ (c, k))
  iapply e; iexact H

theorem Ctx_lev : Ctx X V κ ν ⊢ (levAts Lset lvl : sProp 𝕄) := by
  unfold Ctx; iintro ⟨-, -, -, H⟩; iexact H

/-! ### What a device has yet to pay and to collect -/

/-- What a device needs for a payment. -/
def evRes (c : Dev nD) (e : Ev) : sProp 𝕄 :=
  iprop(dutyTok ER (cell (e.tgt c) e.ck) e.rd e.duty
    ∗ match e with
      | .snd ρ k h s => iprop(dutyTok ER (cell c (.snd ρ h s)) k.val 0 ∗ writeTok ES (nx c ρ, ρ, h, s) (k.val + 1))
      | .ax i => dutyTok ER (cell c (.axs i)) 0 0
      | _ => iprop(emp))

/-- What a device has yet to pay after `n` payments. -/
def todo (c : Dev nD) (n : ℕ) : sProp 𝕄 :=
  iprop((∃ W, owes (c : Thread nD τ) (Ov c n) W) ∗ bigSep (Finset.Ico n 89) fun i => evRes (F := F) c (evAt i))

/-- What a payment entitles its receiver to wait for. -/
def wtRes (c : Dev nD) (e : Ev) : sProp 𝕄 := cred (tallyAt (cell c e.ck) (ixE e) e.amt)

/-- What a device has yet to collect after `m` of the payments to it. -/
def creds (c : Dev nD) (m : ℕ) : sProp 𝕄 := bigSep (Finset.Ico m 89) fun i => wtRes (F := F) c (wtAt i)

theorem todo_take (c : Dev nD) {n : ℕ} (h : n < 89) :
    todo (F := F) c n ⊢ iprop((∃ W, owes (c : Thread nD τ) (Ov c (n + 1) + due c (evAt n)) W) ∗ evRes c (evAt n)
      ∗ bigSep (Finset.Ico (n + 1) 89) fun i => evRes (F := F) c (evAt i)) := by
  unfold todo; rw [← Ov_step c h, Ico_split h, bigSep_insert (by simp)]; exact BI.Entails.refl _

theorem creds_take (c : Dev nD) {m : ℕ} (h : m < 89) : creds (F := F) c m ⊢ iprop(wtRes c (wtAt m) ∗ creds c (m + 1)) := by
  unfold creds; rw [Ico_split h, bigSep_insert (by simp)]; exact BI.Entails.refl _

/-- The number of credits of a ring among the first `n` of a list. -/
def isCr (ρ : Bool) : Ev → Bool
  | .crd ρ' _ _ _ => ρ == ρ'
  | _ => false

def nCr (ρ : Bool) (n : ℕ) : ℕ := (List.range n).countP fun i => isCr ρ (evAt i)
def nWt (ρ : Bool) (m : ℕ) : ℕ := (List.range m).countP fun i => isCr ρ (wtAt i)

theorem nCr_succ (ρ : Bool) (n : ℕ) : nCr ρ (n + 1) = nCr ρ n + if isCr ρ (evAt n) then 1 else 0 := by
  unfold nCr; rw [List.range_succ, List.countP_append, List.countP_singleton]
theorem nWt_succ (ρ : Bool) (n : ℕ) : nWt ρ (n + 1) = nWt ρ n + if isCr ρ (wtAt n) then 1 else 0 := by
  unfold nWt; rw [List.range_succ, List.countP_append, List.countP_singleton]

/-- The place of a credit is the number of credits before it. -/
def placeOf : Ev → Option (Bool × ℕ)
  | .crd ρ k h s => some (ρ, Ev.place k h s)
  | _ => none
theorem nCr_place : ∀ i : Fin 89, ∀ ρ : Bool, isCr ρ (evAt i.val) = true → placeOf (evAt i.val) = some (ρ, nCr ρ i.val) := by decide +kernel
theorem nWt_place : ∀ i : Fin 89, ∀ ρ : Bool, isCr ρ (wtAt i.val) = true → placeOf (wtAt i.val) = some (ρ, nWt ρ i.val) := by decide +kernel

/-- Where a device stands at its credit cell of a ring after `j` waits, and what it has read there. -/
def crIn (c : Dev nD) (ρ : Bool) (j : ℕ) : sProp 𝕄 :=
  iprop(∃ T : Finset ℕ, ⌜T ⊆ Finset.range 18 ∧ j ≤ T.card⌝ ∗ atPos ER (cell c (.crd ρ)) 0 T j ∗ bigSep T fun d => pieces (F := F) (nx c ρ) ρ (d + 1))

/-- The credits' side of a device after `n` payments made and `m` collected. -/
def St (c : Dev nD) (n m : ℕ) : sProp 𝕄 :=
  iprop(todo (F := F) c n ∗ creds c m ∗ (pieces c false (nCr false n) ∗ pieces c true (nCr true n))
    ∗ crIn c false (nWt false m) ∗ crIn c true (nWt true m))

/-- A payment that is no credit. -/
theorem St_pay (c : Dev nD) {n m : ℕ} (h : ∀ ρ, isCr ρ (evAt n) = false) :
    St (F := F) c n m ⊢ iprop(todo c n ∗ (todo c (n + 1) -∗ St c (n + 1) m)) := by
  unfold St
  rw [nCr_succ, nCr_succ, h, h, if_neg (by decide), Nat.add_zero, Nat.add_zero]
  iintro ⟨Ht, Hr⟩
  isplitl [Ht]; · iexact Ht
  iintro Ht
  isplitl [Ht]; · iexact Ht
  iexact Hr

/-- A collection that is no credit. -/
theorem St_collect (c : Dev nD) {n m : ℕ} (hm : m < 89) (h : ∀ ρ, isCr ρ (wtAt m) = false) :
    St (F := F) c n m ⊢ iprop((todo c n ∗ wtRes c (wtAt m)) ∗ (todo c n -∗ St c n (m + 1))) := by
  unfold St
  rw [nWt_succ, nWt_succ, h, h, if_neg (by decide), Nat.add_zero, Nat.add_zero]
  iintro ⟨Ht, Hc, Hr⟩
  ihave Hc' := (creds_take c hm) $$ Hc
  icases Hc' with ⟨H1, Hc⟩
  isplitl [Ht H1]
  · isplitl [Ht] <;> iassumption
  iintro Ht
  isplitl [Ht]; · iexact Ht
  isplitl [Hc]; · iexact Hc
  iexact Hr

theorem St_todo (c : Dev nD) {n m : ℕ} : St (F := F) c n m ⊢ iprop(todo c n ∗ (todo c n -∗ St c n m)) := by
  unfold St
  iintro ⟨Ht, Hr⟩
  isplitl [Ht]; · iexact Ht
  iintro Ht
  isplitl [Ht]; · iexact Ht
  iexact Hr

/-! ### Waiting -/

/-- A wait at a cell with one duty: what the duty hands over. -/
theorem wait_todo (c : Dev nD) (k : CK) {r i n : ℕ} (hd : dutiesK r k = {0}) (hi : i < max 1 n) (hi' : i < 100)
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (semOf k) (amtK k) K)
    (K : PUnit → Pr F) (Q : PUnit → sProp 𝕄) :
    iprop(Ctx X V κ ν ∗ todo c n ∗ cred (tallyAt (cell c k) i (amtK k)) ∗ atPos ER (cell c k) r ∅ 0)
      ⊢ iprop(((todo c n ∗ atPos ER (cell c k) (r + 1) ∅ 0 ∗ reached ER (cell c k) (r + 1) ∗ payK X V c r 0 k) -∗ Wp c (K ⟨⟩) Q)
        -∗ Wp c (.op w K) Q) := by
  unfold todo
  iintro ⟨#HC, ⟨⟨%W, HO⟩, Hrest⟩, Hcr, Hat⟩ Hk
  ihave #HI := (Ctx_inv X V κ ν c k) $$ HC
  ihave #Hlev := (Ctx_lev X V κ ν) $$ HC
  iapply (Rounds.wp_wait_rest_token 𝒱₀ ER (Rd X V) (c : Thread nD τ) none (κ := κ (c, k)) hw (Set.mem_univ _) i
    (O := Ov c n) (W := W) (R := r) (m := 0) (T := ∅) (by rw [Nat.zero_add, expect_one X V c k r hd])) $$ [HO Hcr Hat]
  · isplitr; · iexact HI
    isplitl [Hcr]; · iexact Hcr
    isplitl [HO]; · iexact HO
    isplitr; · iapply (mayOwe c (semOf k) hi hi'); iexact Hlev
    iexact Hat
  iintro ⟨HO, Hat, Hr, Hpay⟩
  have hpay : bigSep ((Rd X V).duties (cell c k) r \ ∅) (fun d => (Rd X V).payload (cell c k) r d) ⊢ payK X V c r 0 k := by
    rw [Rd_duties, hd, Finset.sdiff_empty, bigSep_singleton, Rd_payload]
  ihave Hp := hpay $$ Hpay
  iapply Hk
  isplitl [HO Hrest]
  · isplitl [HO]; · iexists _; iexact HO
    iexact Hrest
  isplitl [Hat]; · iexact Hat
  isplitl [Hr]; · iexact Hr
  iexact Hp

/-! ### Lanes of slots -/

theorem lane_set (ρ : Bool) (h : Fin 4) (s : Fin 2) : (laneM ρ h s).view.set = ((slM ρ).access (laneRect h s)).set :=
  View.set_reshape _ _

/-- Views that read alike after a reshape read alike. -/
theorem read_of_reshape {κ κ' : Kind} {sp sp' : Space} {s s' : Shape} {e : EltTy} {Val : EltTy → Type} (v : View sig κ sp s e)
    (v' : View sig κ' sp' s e) (h : s'.numel = s.numel) (f : v.ty.Contents Val) (g : v'.ty.Contents Val)
    (hr : (v.reshape s' h).read Val f = (v'.reshape s' h).read Val g) : v.read Val f = v'.read Val g := by
  funext x
  have := congrFun hr ((Shape.reshapeEquiv h).symm x)
  rw [View.read_apply, View.read_apply, View.emb_reshape, View.emb_reshape] at this
  simpa [View.read_apply] using this

/-- A lane that was moved to the next slot reads there as it read where it was. -/
theorem lane_moved (ρ : Bool) (h : Fin 3) (s : Fin 2) (f : (laneM ρ h.castSucc s).view.ty.Contents (Elt F))
    (g : (laneM ρ h.succ s).view.ty.Contents (Elt F)) :
    ((slM ρ).access (laneRect h.succ s)).read (Elt F)
        ((laneM ρ h.succ s).view.write (Elt F) g ((laneM ρ h.castSucc s).view.read (Elt F) f) Finset.univ)
      = ((slM ρ).access (laneRect h.castSucc s)).read (Elt F) f :=
  read_of_reshape ((slM ρ).access (laneRect h.succ s)) ((slM ρ).access (laneRect h.castSucc s)) (s' := S1024x512)
    squeezes_S1x1x1024x512_S1024x512.numel_eq _ _ (View.read_write_univ _ _)

theorem laneAt_any (c : Dev nD) (ρ : Bool) (h : Fin 4) (s : Fin 2) (v) : laneAt (F := F) c ρ h s v ⊢ laneAny c ρ h s := by
  unfold laneAt laneAny slot; iintro ⟨%f, -, H⟩; iexists f; iexact H

/-- Reading a lane at any contents. -/
theorem ldAny_spec (c : Dev nD) (ρ : Bool) (h : Fin 4) (s : Fin 2) (K : Vec F S1x1x1024x512 .bf16 → Pr F) (Q : PUnit → sProp 𝕄) :
    laneAny c ρ h s ⊢ iprop((∀ v, laneAny c ρ h s -∗ Wp c (K v) Q) -∗ Wp c (ldLane ρ h s K) Q) := by
  unfold laneAny slot ldLane
  iintro ⟨%f, H⟩ Hk
  iapply (wp_load_rect 𝒱₀ (c : Thread nD τ) none Set.univ (m := slM ρ) (r := laneRect h s) (S := (laneM ρ h s).view.set)
    (lane_set ρ h s).symm.subset) $$ H
  iintro H
  iapply Hk
  iexists f; iexact H

/-- Reading a lane. -/
theorem ldAt_spec (c : Dev nD) (ρ : Bool) (h : Fin 4) (s : Fin 2) (v) (K : Vec F S1x1x1024x512 .bf16 → Pr F) (Q : PUnit → sProp 𝕄) :
    laneAt c ρ h s v ⊢ iprop((laneAt c ρ h s v -∗ Wp c (K v) Q) -∗ Wp c (ldLane ρ h s K) Q) := by
  unfold laneAt ldLane
  iintro ⟨%f, %hf, H⟩ Hk
  iapply (wp_load_rect 𝒱₀ (c : Thread nD τ) none Set.univ (m := slM ρ) (r := laneRect h s) (S := (laneM ρ h s).view.set)
    (lane_set ρ h s).symm.subset) $$ H
  iintro H
  rw [hf]
  iapply Hk
  iexists f
  isplitr; · ipureintro; exact hf
  iexact H

/-- Writing a lane. -/
theorem st_spec (c : Dev nD) (ρ : Bool) (h : Fin 4) (s : Fin 2) (v : FVec F S1x1x1024x512 .bf16) (K : Pr F) (Q : PUnit → sProp 𝕄) :
    laneAny c ρ h s ⊢ iprop((laneAt c ρ h s v -∗ Wp c K Q) -∗ Wp c (stLane ρ h s v K) Q) := by
  unfold laneAny slot stLane laneAt
  iintro ⟨%f, H⟩ Hk
  iapply (wp_store 𝒱₀ (c : Thread nD τ) none Set.univ (m := slM ρ) (r := laneRect h s) (Mk := Finset.univ) (S := (laneM ρ h s).view.set)
    (lane_set ρ h s).symm.subset) $$ H
  iintro H
  iapply Hk
  iexists _
  isplitr; swap; · iexact H
  ipureintro; exact View.read_write_univ _ _

/-- Writing both lanes of a slot. -/
theorem stLanes_spec (c : Dev nD) (ρ : Bool) (h : Fin 4) (v : FVec F S1024x1024 .bf16) (K : Pr F) (Q : PUnit → sProp 𝕄) :
    iprop(laneAny c ρ h 0 ∗ laneAny c ρ h 1)
      ⊢ iprop(((laneAt c ρ h 0 (toSlot (laneOf 0 v)) ∗ laneAt c ρ h 1 (toSlot (laneOf 1 v))) -∗ Wp c K Q) -∗ Wp c (stLanes ρ h v K) Q) := by
  unfold stLanes
  iintro ⟨H0, H1⟩ Hk
  iapply (ldAny_spec c ρ h 0) $$ H0; iintro %_ H0
  iapply (st_spec c ρ h 0) $$ H0; iintro H0
  iapply (ldAny_spec c ρ h 1) $$ H1; iintro %_ H1
  iapply (st_spec c ρ h 1) $$ H1; iintro H1
  iapply Hk
  isplitl [H0] <;> iassumption

/-! ### Where a lane stands -/

/-- A lane's two cells of a hop at round `r`, its landing slot released `n` times. -/
def pos (c : Dev nD) (ρ : Bool) (h : Fin 3) (s : Fin 2) (r n : ℕ) : sProp 𝕄 :=
  iprop(atPos ER (cell c (.snd ρ h s)) r ∅ 0 ∗ atPos ER (cell c (.rcv ρ h s)) r ∅ 0
    ∗ reached ER (cell c (.snd ρ h s)) r ∗ reached ER (cell c (.rcv ρ h s)) r ∗ readerAt ES (c, ρ, h, s) n)

/-- A lane's transfer of a hop is under way. -/
def fly (c : Dev nD) (ρ : Bool) (h : Fin 3) (s : Fin 2) (r : ℕ) : sProp 𝕄 :=
  iprop(pos (F := F) c ρ h s r (r + 1) ∗ cred (tallyAt (cell c (.snd ρ h s)) 0 NL))

/-- A lane's first place. -/
def lane0 : S1024x512.Idx := fun | 0 => ⟨0, by decide⟩ | 1 => ⟨0, by decide⟩

theorem slot_excl (x : Key) : iprop(keySlot (F := F) x ∗ keySlot x) ⊢ (False : sProp 𝕄) := by
  unfold keySlot laneAny
  refine Release.slot_slot_false ?_
  exact ⟨_, Finset.mem_map_of_mem _ (Finset.mem_univ lane0)⟩

/-- Giving a landing slot up. -/
theorem deposit (c : Dev nD) (ρ : Bool) (h : Fin 3) (s : Fin 2) (r n : ℕ) :
    iprop(Ctx X V κ ν ∗ pos (F := F) c ρ h s r n ∗ laneAny c ρ h.succ s)
      ⊢ (|={Set.univ}=> (pos c ρ h s r (n + 1) ∗ released ES (c, ρ, h, s) (n + 1) ∗ reached ER (cell c (.rcv ρ h s)) r) : sProp 𝕄) := by
  unfold pos
  iintro ⟨#HC, ⟨H1, H2, #H3, #H4, Hr⟩, Hs⟩
  ihave #HI := (Ctx_slot X V κ ν (c, ρ, h, s)) $$ HC
  imod (Release.slot_release ES (Set.mem_univ (ν (c, ρ, h, s))) (slot_excl (F := F) (c, ρ, h, s)) n) $$ [Hr Hs] with ⟨Hr, Hw⟩
  · isplitr; · iexact HI
    isplitl [Hr]; · iexact Hr
    iexact Hs
  imodintro
  isplitl [H1 H2 Hr]
  · isplitl [H1]; · iexact H1
    isplitl [H2]; · iexact H2
    isplitr; · iexact H3
    isplitr; · iexact H4
    iexact Hr
  isplitl [Hw]; · iexact Hw
  iexact H4

/-- Waiting for both sides of a hop. -/
theorem waitHop_spec (c : Dev nD) (ρ : Bool) (h : Fin 3) (s : Fin 2) (r : Fin 4) {n m : ℕ} (hm : wtAt m = .snd ρ r h s) (hlt : m < 89)
    (hi : ixE (.snd ρ r h s) < max 1 n) (K : Pr F) (Q : PUnit → sProp 𝕄) :
    iprop(Ctx X V κ ν ∗ St c n m ∗ fly c ρ h s r.val)
      ⊢ iprop(((St c n (m + 1) ∗ pos c ρ h s (r.val + 1) (r.val + 1) ∗ laneAny c ρ h.castSucc s
          ∗ laneAt c ρ h.succ s (income X V ρ r s h.val c)) -∗ Wp c K Q) -∗ Wp c (waitHop ρ h s K) Q) := by
  unfold waitHop fly pos
  iintro ⟨#HC, HS, ⟨H1, H2, -, -, Hr⟩, Hcr⟩ Hk
  have hl : ixE (.snd ρ r h s) < 100 := by
    have : ∀ i : Fin 89, ixE (wtAt i.val) < 100 := by decide +kernel
    rw [← hm]; exact this ⟨m, hlt⟩
  have hd : ∀ k, (k = CK.snd ρ h s ∨ k = CK.rcv ρ h s) → dutiesK r.val k = {0} := by
    rintro k (rfl | rfl) <;> exact if_pos r.isLt
  ihave HS' := (St_collect c hlt (by rw [hm]; intro; rfl)) $$ HS
  icases HS' with ⟨⟨Ht, Hw⟩, HS⟩
  rw [hm]
  iapply (wait_todo X V κ ν c (.snd ρ h s) (r := r.val) (i := 0) (n := n) (hd _ (.inl rfl)) (by omega) (by omega)
    (fun K => (wpE_waitDma2_eq 𝒱₀ (c : Thread nD τ) none Set.univ K).trans (by rw [lane_credit]; rfl))) $$ [Ht Hcr H1]
  · isplitr; · iexact HC
    isplitl [Ht]; · iexact Ht
    isplitl [Hcr]; · iexact Hcr
    iexact H1
  iintro ⟨Ht, H1, #Hr1, Hp1⟩
  unfold wtRes
  iapply (wait_todo X V κ ν c (.rcv ρ h s) (r := r.val) (n := n) (hd _ (.inr rfl)) hi hl
    (fun K => (wpE_waitDma2_eq 𝒱₀ (c : Thread nD τ) none Set.univ K).trans (by rw [lane_credit]; rfl))) $$ [Ht Hw H2]
  · isplitr; · iexact HC
    isplitl [Ht]; · iexact Ht
    isplitl [Hw]; · iexact Hw
    iexact H2
  iintro ⟨Ht, H2, #Hr2, Hp2⟩
  iapply Hk
  isplitl [HS Ht]; · iapply HS; iexact Ht
  isplitl [H1 H2 Hr]
  · isplitl [H1]; · iexact H1
    isplitl [H2]; · iexact H2
    isplitr; · iexact Hr1
    isplitr; · iexact Hr2
    iexact Hr
  isplitl [Hp1]; · unfold payK; iexact Hp1
  have hpay : payK X V c r.val 0 (.rcv ρ h s) ⊢ laneAt c ρ h.succ s (income X V ρ r s h.val c) := by
    dsimp only [payK]
    rw [show (Fin.ofNat 4 r.val : Fin 4) = r from Fin.ext (Nat.mod_eq_of_lt r.isLt)]
  iapply hpay; iexact Hp2

end Cert.Proof

end
-- ==== Proof.Hops.lean ====
/-
  Sending along a ring, and the hops of a round.
-/
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))
variable (κ : Dev nD × CK → ℕ) (ν : Key → ℕ)

/-- A transfer of a lane to the next device, at the cells of the hop. -/
theorem send_raw (c : Dev nD) (ρ : Bool) (h : Fin 3) (s : Fin 2) (r : Fin 4) (O : CellTallies nD τ sig ℕ) (i : ℕ)
    (f : (laneM ρ h.castSucc s).view.ty.Contents (Elt F)) (g : (laneM ρ h.succ s).view.ty.Contents (Elt F)) (W : Waits sig ℕ)
    (hf : ((slM ρ).access (laneRect h.castSucc s)).read (Elt F) f = outgo X V ρ r s h.val c) (K : Pr F) (Q : PUnit → sProp 𝕄) :
    iprop(cellInv ER (Rd X V) (κ (c, .snd ρ h s)) (cell c (.snd ρ h s)) ∗ cellInv ER (Rd X V) (κ (nx c ρ, .rcv ρ h s)) (cell (nx c ρ) (.rcv ρ h s))
        ∗ ((laneM ρ h.castSucc s).view.loc (c : Thread nD τ) ↦[(laneM ρ h.castSucc s).view.set]{fullShare} f)
        ∗ ((laneM ρ h.succ s).view.loc (nx c ρ : Thread nD τ) ↦[(laneM ρ h.succ s).view.set]{fullShare} g)
        ∗ owes (c : Thread nD τ) (O + tallyAt (cell (nx c ρ) (.rcv ρ h s)) i NL) W
        ∗ dutyTok ER (cell c (.snd ρ h s)) r.val 0 ∗ reached ER (cell c (.snd ρ h s)) r.val
        ∗ dutyTok ER (cell (nx c ρ) (.rcv ρ h s)) r.val 0 ∗ reached ER (cell (nx c ρ) (.rcv ρ h s)) r.val)
      ⊢ iprop(((cred (tallyAt (cell c (.snd ρ h s)) 0 NL) ∗ owes (c : Thread nD τ) O W) -∗ Wp c K Q) -∗ Wp c (send (nx c) ρ h s K) Q) := by
  have hd1 : 0 ∈ (Rd X V).duties (cell c (.snd ρ h s)) r.val := by
    rw [Rd_duties]; dsimp only [dutiesK]; rw [if_pos r.isLt]; exact Finset.mem_singleton_self _
  have hd2 : 0 ∈ (Rd X V).duties (cell (nx c ρ) (.rcv ρ h s)) r.val := by
    rw [Rd_duties]; dsimp only [dutiesK]; rw [if_pos r.isLt]; exact Finset.mem_singleton_self _
  have hr : (Fin.ofNat 4 r.val : Fin 4) = r := Fin.ext (Nat.mod_eq_of_lt r.isLt)
  have hpay : ((laneM ρ h.succ s).view.loc (nx c ρ : Thread nD τ) ↦[(laneM ρ h.succ s).view.set]{fullShare}
        ((laneM ρ h.succ s).view.write (Elt F) g ((laneM ρ h.castSucc s).view.read (Elt F) f) Finset.univ) : sProp 𝕄)
      ⊢ (Rd X V).payload (cell (nx c ρ) (.rcv ρ h s)) r.val 0 := by
    rw [Rd_payload]; dsimp only [payK]; unfold laneAt
    iintro H
    iexists _
    isplitr; swap; · iexact H
    ipureintro
    rw [hr]; unfold income; rw [nx_not, ← hf]
    exact lane_moved ρ h s f g
  have hpay1 : ((laneM ρ h.castSucc s).view.loc (c : Thread nD τ) ↦[(laneM ρ h.castSucc s).view.set]{fullShare} f : sProp 𝕄)
      ⊢ (Rd X V).payload (cell c (.snd ρ h s)) r.val 0 := by
    rw [Rd_payload]; dsimp only [payK]; unfold laneAny slot
    iintro H; iexists f; iexact H
  unfold send
  exact Rounds.wp_send_pointsTo (defs := defs₀ (F := F)) (k := fun _ => K) (Q := Q) (Es := Set.univ) 𝒱₀ ER (Rd X V) (c : Thread nD τ) none (κ₁ := κ (c, .snd ρ h s)) (κ₂ := κ (nx c ρ, .rcv ρ h s))
    (c' := (nx c ρ : Thread nD τ)) (src := laneM ρ h.castSucc s) (dst := laneM ρ h.succ s) (sS := SemLoc.dma (sS ρ h s)) (sem := SemLoc.dma (sR ρ h s))
    (r₁ := r.val) (r₂ := r.val) (d₁ := 0) (d₂ := 0) (fs := f) (fd := g) hd1 hd2 i 0 NL (lane_credit ρ h.succ s)
    (Rd_amount X V c (.snd ρ h s) r.val 0) (Rd_amount X V (nx c ρ) (.rcv ρ h s) r.val 0) O rfl (W := W) hpay1 hpay

/-- Sending a lane. -/
theorem send_spec (c : Dev nD) (ρ : Bool) (h : Fin 3) (s : Fin 2) (r : Fin 4) {n m : ℕ} (hn : evAt n = .snd ρ r h s) (hlt : n < 89)
    (K : Pr F) (Q : PUnit → sProp 𝕄) :
    iprop(Ctx X V κ ν ∗ St c n m ∗ pos c ρ h s r.val (r.val + 1) ∗ laneAt c ρ h.castSucc s (outgo X V ρ r s h.val c)
        ∗ clear (nx c ρ) ρ h s r.val)
      ⊢ iprop(((St c (n + 1) m ∗ fly c ρ h s r.val) -∗ Wp c K Q) -∗ Wp c (send (nx c) ρ h s K) Q) := by
  unfold fly pos clear laneAt
  iintro ⟨#HC, HS, ⟨H1, H2, #H3, #H4, Hr⟩, ⟨%f, %hf, Hl⟩, #Hrel, #Hrch⟩ Hk
  ihave HS' := (St_pay c (by rw [hn]; intro; rfl)) $$ HS
  icases HS' with ⟨Ht, HS⟩
  ihave Ht' := (todo_take c hlt) $$ Ht
  rw [hn]
  unfold evRes
  icases Ht' with ⟨⟨%W, HO⟩, ⟨Hd, Hd', Hw⟩, Hrest⟩
  ihave #HI1 := (Ctx_inv X V κ ν c (.snd ρ h s)) $$ HC
  ihave #HI2 := (Ctx_inv X V κ ν (nx c ρ) (.rcv ρ h s)) $$ HC
  ihave #HIs := (Ctx_slot X V κ ν (nx c ρ, ρ, h, s)) $$ HC
  imod (Release.slot_take ES (Set.mem_univ (ν (nx c ρ, ρ, h, s))) (r.val + 1)) $$ [Hw] with Hdst
  · isplitr; · iexact HIs
    isplitr; · iexact Hrel
    iexact Hw
  unfold keySlot laneAny slot
  icases Hdst with ⟨%g, Hdst⟩
  iapply (send_raw X V κ c ρ h s r (Ov c (n + 1)) (ixE (.snd ρ r h s)) f g W hf) $$ [HO Hd Hd' Hl Hdst]
  · isplitr; · iexact HI1
    isplitr; · iexact HI2
    isplitl [Hl]; · iexact Hl
    isplitl [Hdst]; · iexact Hdst
    isplitl [HO]; · iexact HO
    isplitl [Hd']; · iexact Hd'
    isplitr; · iexact H3
    isplitl [Hd]; · iexact Hd
    iexact Hrch
  iintro ⟨Hcr, HO⟩
  iapply Hk
  isplitl [HS HO Hrest]
  · iapply HS; unfold todo
    isplitl [HO]; · iexists W; iexact HO
    iexact Hrest
  isplitr [Hcr]; swap; · iexact Hcr
  isplitl [H1]; · iexact H1
  isplitl [H2]; · iexact H2
  isplitr; · iexact H3
  isplitr; · iexact H4
  iexact Hr

/-! ### Credits -/

theorem pieces_succ (d : Dev nD) (ρ : Bool) (n : ℕ) : pieces (F := F) d ρ (n + 1) = iprop(piece d ρ n ∗ pieces d ρ n) := by
  unfold pieces; rw [Finset.range_add_one, bigSep_insert Finset.notMem_range_self]; rfl

theorem place_parts : ∀ (k h : Fin 3) (s : Fin 2), Fin.ofNat 3 (Ev.place k h s % 6 / 2) = h ∧ Fin.ofNat 2 (Ev.place k h s % 2) = s
    ∧ Ev.place k h s / 6 = k.val ∧ Ev.place k h s < 18 := by decide

theorem piece_place (d : Dev nD) (ρ : Bool) (k h : Fin 3) (s : Fin 2) :
    piece (F := F) d ρ (Ev.place k h s) = clear d ρ h s (k.val + 1) := by
  unfold piece; rw [(place_parts k h s).1, (place_parts k h s).2.1, (place_parts k h s).2.2.1]

/-- The `n`-th payment is `e`. -/
def Pays (n : ℕ) (e : Ev) : Prop := n < 89 ∧ evAt n = e
/-- The `m`-th payment collected is `e`, and the device has made the payment of that number when it has made `n`. -/
def Waits (m n : ℕ) (e : Ev) : Prop := m < 89 ∧ wtAt m = e ∧ ixE e < max 1 n ∧ ixE e < 100

instance (n : ℕ) (e : Ev) : Decidable (Pays n e) := by unfold Pays; infer_instance
instance (m n : ℕ) (e : Ev) : Decidable (Waits m n e) := by unfold Waits; infer_instance

theorem nCr_of {n : ℕ} {ρ : Bool} {k h : Fin 3} {s : Fin 2} (hp : Pays n (.crd ρ k h s)) :
    nCr ρ n = Ev.place k h s ∧ nCr ρ (n + 1) = Ev.place k h s + 1 ∧ nCr (!ρ) (n + 1) = nCr (!ρ) n := by
  have h0 : nCr ρ n = Ev.place k h s := by
    have := nCr_place ⟨n, hp.1⟩ ρ (by show isCr ρ (evAt n) = true; rw [hp.2]; exact beq_self_eq_true ρ)
    simp only [hp.2, placeOf] at this
    exact ((Prod.mk.inj (Option.some.inj this)).2).symm
  refine ⟨h0, ?_, ?_⟩
  · rw [nCr_succ, h0, hp.2]; show _ + (if (ρ == ρ) = true then 1 else 0) = _; rw [beq_self_eq_true]; rfl
  · rw [nCr_succ, hp.2]; cases ρ <;> rfl

theorem nWt_of {n m : ℕ} {ρ : Bool} {k h : Fin 3} {s : Fin 2} (hp : Waits m n (.crd ρ k h s)) :
    nWt ρ m = Ev.place k h s ∧ nWt ρ (m + 1) = Ev.place k h s + 1 ∧ nWt (!ρ) (m + 1) = nWt (!ρ) m := by
  have h0 : nWt ρ m = Ev.place k h s := by
    have := nWt_place ⟨m, hp.1⟩ ρ (by show isCr ρ (wtAt m) = true; rw [hp.2.1]; exact beq_self_eq_true ρ)
    simp only [hp.2.1, placeOf] at this
    exact ((Prod.mk.inj (Option.some.inj this)).2).symm
  refine ⟨h0, ?_, ?_⟩
  · rw [nWt_succ, h0, hp.2.1]; show _ + (if (ρ == ρ) = true then 1 else 0) = _; rw [beq_self_eq_true]; rfl
  · rw [nWt_succ, hp.2.1]; cases ρ <;> rfl

/-- A payment that is a credit. -/
theorem St_payCr (c : Dev nD) {n m : ℕ} {ρ : Bool} {k h : Fin 3} {s : Fin 2} (hp : Pays n (.crd ρ k h s)) :
    St (F := F) c n m ⊢ iprop((todo c n ∗ pieces c ρ (Ev.place k h s))
      ∗ ((todo c (n + 1) ∗ pieces c ρ (Ev.place k h s + 1)) -∗ St c (n + 1) m)) := by
  obtain ⟨h0, h1, h2⟩ := nCr_of hp
  unfold St
  cases ρ
  · rw [show nCr true (n + 1) = nCr true n from h2, h0, h1]
    iintro ⟨Ht, Hc, ⟨H1, H2⟩, H3⟩
    isplitl [Ht H1]; · isplitl [Ht] <;> iassumption
    iintro ⟨Ht, H1⟩
    isplitl [Ht]; · iexact Ht
    isplitl [Hc]; · iexact Hc
    isplitl [H1 H2]; · isplitl [H1] <;> iassumption
    iexact H3
  · rw [show nCr false (n + 1) = nCr false n from h2, h0, h1]
    iintro ⟨Ht, Hc, ⟨H1, H2⟩, H3⟩
    isplitl [Ht H2]; · isplitl [Ht] <;> iassumption
    iintro ⟨Ht, H2⟩
    isplitl [Ht]; · iexact Ht
    isplitl [Hc]; · iexact Hc
    isplitl [H1 H2]; · isplitl [H1] <;> iassumption
    iexact H3

/-- A collection that is a credit. -/
theorem St_collectCr (c : Dev nD) {n m : ℕ} {ρ : Bool} {k h : Fin 3} {s : Fin 2} (hp : Waits m n (.crd ρ k h s)) :
    St (F := F) c n m ⊢ iprop((todo c n ∗ wtRes c (.crd ρ k h s) ∗ crIn c ρ (Ev.place k h s))
      ∗ ((todo c n ∗ crIn c ρ (Ev.place k h s + 1)) -∗ St c n (m + 1))) := by
  obtain ⟨h0, h1, h2⟩ := nWt_of hp
  unfold St
  cases ρ
  · rw [show nWt true (m + 1) = nWt true m from h2, h0, h1]
    iintro ⟨Ht, Hc, H3, H1, H2⟩
    ihave Hc' := (creds_take c hp.1) $$ Hc
    rw [hp.2.1]
    icases Hc' with ⟨Hw, Hc⟩
    isplitl [Ht H1 Hw]
    · isplitl [Ht]; · iexact Ht
      isplitl [Hw] <;> iassumption
    iintro ⟨Ht, H1⟩
    isplitl [Ht]; · iexact Ht
    isplitl [Hc]; · iexact Hc
    isplitl [H3]; · iexact H3
    isplitl [H1] <;> iassumption
  · rw [show nWt false (m + 1) = nWt false m from h2, h0, h1]
    iintro ⟨Ht, Hc, H3, H1, H2⟩
    ihave Hc' := (creds_take c hp.1) $$ Hc
    rw [hp.2.1]
    icases Hc' with ⟨Hw, Hc⟩
    isplitl [Ht H2 Hw]
    · isplitl [Ht]; · iexact Ht
      isplitl [Hw] <;> iassumption
    iintro ⟨Ht, H2⟩
    isplitl [Ht]; · iexact Ht
    isplitl [Hc]; · iexact Hc
    isplitl [H3]; · iexact H3
    isplitl [H1] <;> iassumption

/-- What a device has of a hop at the end of round `k`: its landing slot is given up again if another round follows. -/
def back (c : Dev nD) (ρ : Bool) (h : Fin 3) (s : Fin 2) (k : Fin 4) : sProp 𝕄 :=
  if k.val < 3 then pos (F := F) c ρ h s (k.val + 1) (k.val + 2)
  else iprop(pos (F := F) c ρ h s (k.val + 1) (k.val + 1) ∗ laneAny c ρ h.succ s)

/-- What a credit needs, if it is given. -/
def CreditOk (ρ : Bool) (k : Fin 4) (h : Fin 3) (s : Fin 2) (n : ℕ) : Prop := ∀ h' : k.val < 3, Pays n (.crd ρ ⟨k.val, h'⟩ h s)
/-- What a wait for a credit needs, if it is waited for. -/
def CredWaitOk (ρ : Bool) (k : Fin 4) (h : Fin 3) (s : Fin 2) (m n : ℕ) : Prop :=
  ∀ _ : 0 < k.val, Waits m n (.crd ρ ⟨k.val - 1, by omega⟩ h s)
instance (ρ : Bool) (k : Fin 4) (h : Fin 3) (s : Fin 2) (n : ℕ) : Decidable (CreditOk ρ k h s n) := by unfold CreditOk; infer_instance
instance (ρ : Bool) (k : Fin 4) (h : Fin 3) (s : Fin 2) (m n : ℕ) : Decidable (CredWaitOk ρ k h s m n) := by unfold CredWaitOk; infer_instance

/-- Giving a credit: the landing slot is given up, and the previous device told so. -/
theorem credit_spec (c : Dev nD) (ρ : Bool) (k : Fin 4) (h : Fin 3) (s : Fin 2) (cr : Bool) (hcr : cr = decide (k.val < 3)) {n m : ℕ}
    (hp : CreditOk ρ k h s n) (K : Pr F) (Q : PUnit → sProp 𝕄) :
    iprop(Ctx X V κ ν ∗ St c n m ∗ pos c ρ h s (k.val + 1) (k.val + 1) ∗ laneAny c ρ h.succ s)
      ⊢ iprop(((St c (n + cr.toNat) m ∗ back c ρ h s k) -∗ Wp c K Q) -∗ Wp c (credit (nx c) ρ cr K) Q) := by
  by_cases h3 : k.val < 3
  · have hc : cr = true := by rw [hcr]; exact decide_eq_true h3
    subst hc
    have hp := hp h3
    unfold credit back; rw [if_pos h3]
    iintro ⟨#HC, HS, Hpos, Hl⟩ Hk
    imod (deposit X V κ ν c ρ h s (k.val + 1) (k.val + 1)) $$ [Hpos Hl] with ⟨Hpos, #Hrel, #Hrch⟩
    · isplitr; · iexact HC
      isplitl [Hpos]; · iexact Hpos
      iexact Hl
    ihave HS' := (St_payCr c hp) $$ HS
    icases HS' with ⟨⟨Ht, #Hp⟩, HS⟩
    ihave Ht' := (todo_take c hp.1) $$ Ht
    rw [hp.2]
    unfold evRes
    icases Ht' with ⟨⟨%W, HO⟩, ⟨Hd, -⟩, Hrest⟩
    ihave #HI := (Ctx_inv X V κ ν (nx c (!ρ)) (.crd ρ)) $$ HC
    ihave #Hr0 := (Ctx_reached X V κ ν (nx c (!ρ)) (.crd ρ)) $$ HC
    have hpl := (place_parts ⟨k.val, h3⟩ h s).2.2.2
    have hnew : iprop(released ES (c, ρ, h, s) (k.val + 1 + 1) ∗ reached ER (cell c (.rcv ρ h s)) (k.val + 1)
        ∗ pieces (F := F) c ρ (Ev.place ⟨k.val, h3⟩ h s)) ⊢ (pieces c ρ (Ev.place ⟨k.val, h3⟩ h s + 1) : sProp 𝕄) := by
      rw [pieces_succ, piece_place]; unfold clear
      iintro ⟨H1, H2, H3⟩
      isplitl [H1 H2]; · isplitl [H1] <;> iassumption
      iexact H3
    iapply (Rounds.wp_signal 𝒱₀ ER (Rd X V) (c : Thread nD τ) none (dst := (nx c (!ρ) : Thread nD τ)) (sem := crS ρ) (κ := κ (nx c (!ρ), .crd ρ))
      (r := 0) (d := Ev.place ⟨k.val, h3⟩ h s) (k' := 1)
      (by show _ ∈ (Rd X V).duties (cell (nx c (!ρ)) (.crd ρ)) 0; rw [Rd_duties]; exact Finset.mem_range.mpr hpl)
      (Rd_amount X V (nx c (!ρ)) (.crd ρ) 0 _) (ixE (.crd ρ ⟨k.val, h3⟩ h s)) (Ov c (n + 1)) rfl (W := W)) $$ [HO Hd]
    · isplitr; · iexact HI
      isplitl [HO]; · iexact HO
      isplitl [Hd]; · iexact Hd
      isplitr
      · have e : (pieces (F := F) c ρ (Ev.place ⟨k.val, h3⟩ h s + 1))
            ⊢ (Rd X V).payload ((nx c (!ρ) : Thread nD τ), SemLoc.reg (crS ρ)) 0 (Ev.place ⟨k.val, h3⟩ h s) := by
          rw [show (Rd X V).payload ((nx c (!ρ) : Thread nD τ), SemLoc.reg (crS ρ)) 0 (Ev.place ⟨k.val, h3⟩ h s) = _ from
            Rd_payload X V (nx c (!ρ)) (.crd ρ) 0 _]; dsimp only [payK]; rw [nx_not']
        iapply e; iapply hnew
        isplitr; · iexact Hrel
        isplitr; · iexact Hrch
        iexact Hp
      iexact Hr0
    iintro HO
    iapply Hk
    isplitr [Hpos]; swap; · iexact Hpos
    iapply HS
    isplitl [HO Hrest]
    · unfold todo
      isplitl [HO]; · iexists W; iexact HO
      iexact Hrest
    iapply hnew
    isplitr; · iexact Hrel
    isplitr; · iexact Hrch
    iexact Hp
  · have hc : cr = false := by rw [hcr]; exact decide_eq_false h3
    subst hc
    unfold credit back; rw [if_neg h3]
    iintro ⟨#HC, HS, Hpos, Hl⟩ Hk
    iapply Hk
    isplitl [HS]; · iexact HS
    isplitl [Hpos] <;> iassumption

/-- What a device learns at the barrier of the next devices' slots. -/
def Open (c : Dev nD) : sProp 𝕄 := iprop(openSlots (F := F) (nx c false) false ∗ openSlots (nx c true) true)

instance Open_persistent (c : Dev nD) : BI.Persistent (Open (F := F) c) := by unfold Open; infer_instance

theorem Open_clear (c : Dev nD) (ρ : Bool) (h : Fin 3) (s : Fin 2) : Open (F := F) c ⊢ clear (nx c ρ) ρ h s 0 := by
  have e : openSlots (F := F) (nx c ρ) ρ ⊢ clear (nx c ρ) ρ h s 0 := by
    unfold openSlots
    exact bigSep_elim (Φ := fun x : Fin 3 × Fin 2 => clear (F := F) (nx c ρ) ρ x.1 x.2 0) (Finset.mem_univ (h, s))
  have e' : Open (F := F) c ⊢ openSlots (nx c ρ) ρ := by
    cases ρ
    · unfold Open; iintro ⟨H, -⟩; iexact H
    · unfold Open; iintro ⟨-, H⟩; iexact H
  exact e'.trans e

/-- One more credit read: it says the next piece, for at least as many credits have come as were waited for. -/
theorem crIn_next (c : Dev nD) (ρ : Bool) {j : ℕ} {T S : Finset ℕ} (hT : T ⊆ S) (hS : S ⊆ Finset.range 18)
    (hc : j + 1 + (Finset.range 18 \ S).card ≤ 18) :
    iprop((bigSep T fun d => pieces (F := F) (nx c ρ) ρ (d + 1)) ∗ bigSep (S \ T) fun d => pieces (F := F) (nx c ρ) ρ (d + 1))
      ⊢ iprop((bigSep S fun d => pieces (nx c ρ) ρ (d + 1)) ∗ piece (nx c ρ) ρ j) := by
  have hcard : j + 1 ≤ S.card := by
    have := Finset.card_sdiff_add_card_eq_card hS
    rw [Finset.card_range] at this; omega
  obtain ⟨d, hd, hjd⟩ : ∃ d ∈ S, j ≤ d := by
    by_contra hn
    push Not at hn
    have : S ⊆ Finset.range j := fun d hd => Finset.mem_range.mpr (hn d hd)
    have := Finset.card_le_card this
    rw [Finset.card_range] at this; omega
  have e1 : iprop((bigSep T fun d => pieces (F := F) (nx c ρ) ρ (d + 1)) ∗ bigSep (S \ T) fun d => pieces (F := F) (nx c ρ) ρ (d + 1))
      ⊢ bigSep S fun d => pieces (F := F) (nx c ρ) ρ (d + 1) :=
    Entails.of_eq ((bigSep_union Finset.disjoint_sdiff).symm.trans (by rw [Finset.union_sdiff_of_subset hT]))
  have e2 : (bigSep S fun d => pieces (F := F) (nx c ρ) ρ (d + 1)) ⊢ piece (nx c ρ) ρ j :=
    BI.Entails.trans (bigSep_elim hd) (bigSep_elim (Φ := piece (F := F) (nx c ρ) ρ) (Finset.mem_range.mpr (by omega)))
  refine e1.trans ?_
  iintro #H
  isplitr; · iexact H
  iapply e2; iexact H

/-- Waiting for a credit: the next device's landing slot is clear. -/
theorem credWait_spec (c : Dev nD) (ρ : Bool) (k : Fin 4) (h : Fin 3) (s : Fin 2) (cw : Bool) (hcw : cw = decide (0 < k.val)) {n m : ℕ}
    (hp : CredWaitOk ρ k h s m n) (K : Pr F) (Q : PUnit → sProp 𝕄) :
    iprop(Ctx X V κ ν ∗ Open c ∗ St c n m)
      ⊢ iprop(((St c n (m + cw.toNat) ∗ clear (nx c ρ) ρ h s k.val) -∗ Wp c K Q) -∗ Wp c (credWait ρ cw K) Q) := by
  by_cases h0 : 0 < k.val
  · have hc : cw = true := by rw [hcw]; exact decide_eq_true h0
    subst hc
    have hp := hp h0
    unfold credWait
    iintro ⟨#HC, -, HS⟩ Hk
    ihave HS' := (St_collectCr c hp) $$ HS
    icases HS' with ⟨⟨Ht, Hw, Hin⟩, HS⟩
    unfold todo crIn
    icases Ht with ⟨⟨%W, HO⟩, Hrest⟩
    icases Hin with ⟨%T, %hT, Hat, HT⟩
    ihave #HI := (Ctx_inv X V κ ν c (.crd ρ)) $$ HC
    ihave #Hlev := (Ctx_lev X V κ ν) $$ HC
    unfold wtRes
    iapply (Rounds.wp_wait 𝒱₀ ER (Rd X V) (c : Thread nD τ) none (κ := κ (c, .crd ρ)) (sm := semOf (.crd ρ)) (k' := 1)
      (fun K => wpE_semWait_eq 𝒱₀ (c : Thread nD τ) none Set.univ K) (Set.mem_univ _)
      (cr := Finsupp.single (ixE (.crd ρ ⟨k.val - 1, by omega⟩ h s)) 1)
      (O := Ov c n) (W := W) {(semOf (.crd ρ), ixE (.crd ρ ⟨k.val - 1, by omega⟩ h s))} (R := 0) (m := Ev.place ⟨k.val - 1, by omega⟩ h s) (T := T)
      (Util.total_single _ _) (image_single_subset _ _ _)) $$ [HO Hw Hat]
    · isplitr; · iexact HI
      isplitl [Hw]; · iexact Hw
      isplitl [HO]; · iexact HO
      isplitr; · iapply (mayOwe c (semOf (.crd ρ)) hp.2.2.1 hp.2.2.2); iexact Hlev
      iexact Hat
    rw [Rd_duties, expect_crd]
    iintro %S ⟨%hS, HO, Hat, Hpay⟩
    have hd18 : dutiesK 0 (.crd ρ) = Finset.range 18 := rfl
    rw [hd18] at hS
    have hpay : bigSep (S \ T) (fun d => (Rd X V).payload (cell c (.crd ρ)) 0 d) ⊢ bigSep (S \ T) fun d => pieces (F := F) (nx c ρ) ρ (d + 1) :=
      Entails.of_eq (bigSep_congr fun d _ => Rd_payload X V c (.crd ρ) 0 d)
    ihave Hpay := hpay $$ Hpay
    ihave Hn := (crIn_next c ρ (j := Ev.place ⟨k.val - 1, by omega⟩ h s) hS.1 hS.2.1 hS.2.2) $$ [HT Hpay]
    · isplitl [HT] <;> iassumption
    icases Hn with ⟨HT, Hpc⟩
    iapply Hk
    isplitr [Hpc]
    · iapply HS
      isplitl [HO Hrest]
      · isplitl [HO]; · iexists _; iexact HO
        iexact Hrest
      iexists S
      isplitr
      · ipureintro
        refine ⟨hS.2.1, ?_⟩
        have := Finset.card_sdiff_add_card_eq_card hS.2.1
        rw [Finset.card_range] at this
        have := hS.2.2
        omega
      isplitl [Hat]; · iexact Hat
      iexact HT
    have e : piece (F := F) (nx c ρ) ρ (Ev.place ⟨k.val - 1, by omega⟩ h s) ⊢ clear (nx c ρ) ρ h s k.val := by
      rw [piece_place]; dsimp only; rw [Nat.sub_add_cancel h0]
    iapply e; iexact Hpc
  · have hc : cw = false := by rw [hcw]; exact decide_eq_false h0
    subst hc
    have hk : k.val = 0 := by omega
    unfold credWait
    rw [hk]
    iintro ⟨#HC, #HO, HS⟩ Hk
    iapply Hk
    isplitl [HS]; · iexact HS
    iapply (Open_clear c ρ h s); iexact HO

/-! ### A lane through a round -/

/-- A lane in round `k` after `h` hops. -/
def lane (c : Dev nD) (ρ : Bool) (s : Fin 2) (k : Fin 4) : Fin 4 → sProp 𝕄
  | 0 => iprop(fly c ρ 0 s k.val ∗ pos c ρ 1 s k.val (k.val + 1) ∗ pos c ρ 2 s k.val (k.val + 1))
  | 1 => iprop(laneAny c ρ 0 s ∗ pos c ρ 0 s (k.val + 1) (k.val + 1) ∗ fly c ρ 1 s k.val ∗ pos c ρ 2 s k.val (k.val + 1))
  | 2 => iprop(laneAny c ρ 0 s ∗ back c ρ 0 s k ∗ pos c ρ 1 s (k.val + 1) (k.val + 1) ∗ fly c ρ 2 s k.val)
  | 3 => iprop(laneAny c ρ 0 s ∗ back c ρ 0 s k ∗ back c ρ 1 s k ∗ pos c ρ 2 s (k.val + 1) (k.val + 1)
      ∗ laneAt c ρ 3 s (income X V ρ k s 2 c))

/-- What hop 0 of a lane needs of the order. -/
def Mid0Ok (ρ : Bool) (s : Fin 2) (k : Fin 4) (n m : ℕ) : Prop :=
  Waits m n (.snd ρ k 0 s) ∧ CredWaitOk ρ k 1 s (m + 1) n ∧ Pays n (.snd ρ k 1 s)
/-- What hop 1 of a lane needs of the order. -/
def Mid1Ok (ρ : Bool) (s : Fin 2) (k : Fin 4) (cr : Bool) (n m : ℕ) : Prop :=
  Waits m n (.snd ρ k 1 s) ∧ CreditOk ρ k 0 s n ∧ CredWaitOk ρ k 2 s (m + 1) (n + cr.toNat) ∧ Pays (n + cr.toNat) (.snd ρ k 2 s)
/-- What hop 2 of a lane needs of the order. -/
def EndOk (ρ : Bool) (s : Fin 2) (k : Fin 4) (n m : ℕ) : Prop := Waits m n (.snd ρ k 2 s) ∧ CreditOk ρ k 1 s n
instance (ρ : Bool) (s : Fin 2) (k : Fin 4) (n m : ℕ) : Decidable (Mid0Ok ρ s k n m) := by unfold Mid0Ok; infer_instance
instance (ρ : Bool) (s : Fin 2) (k : Fin 4) (cr : Bool) (n m : ℕ) : Decidable (Mid1Ok ρ s k cr n m) := by unfold Mid1Ok; infer_instance
instance (ρ : Bool) (s : Fin 2) (k : Fin 4) (n m : ℕ) : Decidable (EndOk ρ s k n m) := by unfold EndOk; infer_instance

/-- Hop 0 of a lane. -/
theorem mid0_spec (c : Dev nD) (ρ : Bool) (s : Fin 2) (k : Fin 4) (cw : Bool) (hcw : cw = decide (0 < k.val)) {n m : ℕ}
    (hok : Mid0Ok ρ s k n m) (K : Pr F) (Q : PUnit → sProp 𝕄) :
    iprop(Ctx X V κ ν ∗ Open c ∗ St c n m ∗ lane X V c ρ s k 0)
      ⊢ iprop(((St c (n + 1) (m + 1 + cw.toNat) ∗ lane X V c ρ s k 1) -∗ Wp c K Q) -∗ Wp c (hopMid (nx c) ρ 0 s false cw (P X V c ρ k 1) K) Q) := by
  unfold hopMid lane
  iintro ⟨#HC, #HO, HS, Hf, Hp1, Hp2⟩ Hk
  iapply (waitHop_spec X V κ ν c ρ 0 s k hok.1.2.1 hok.1.1 hok.1.2.2.1) $$ [HS Hf]
  · isplitr; · iexact HC
    isplitl [HS] <;> iassumption
  iintro ⟨HS, Hp0, H0, H1⟩
  unfold credit
  iapply (ldAt_spec c ρ (Fin.succ 0) s) $$ H1; iintro H1
  ihave H1 := (laneAt_any c ρ (Fin.succ 0) s _) $$ H1
  iapply (ldAny_spec c ρ (Fin.succ 0) s) $$ H1; iintro %_ H1
  iapply (st_spec c ρ (Fin.succ 0) s) $$ H1; iintro H1
  iapply (credWait_spec X V κ ν c ρ k 1 s cw hcw hok.2.1) $$ [HS]
  · isplitr; · iexact HC
    isplitr; · iexact HO
    iexact HS
  iintro ⟨HS, Hc⟩
  iapply (send_spec X V κ ν c ρ 1 s k hok.2.2.2 hok.2.2.1) $$ [HS Hp1 H1 Hc]
  · isplitr; · iexact HC
    isplitl [HS]; · iexact HS
    isplitl [Hp1]; · iexact Hp1
    isplitl [H1]; · iexact H1
    iexact Hc
  iintro ⟨HS, Hf⟩
  iapply Hk
  isplitl [HS]; · iexact HS
  isplitl [H0]; · iexact H0
  isplitl [Hp0]; · iexact Hp0
  isplitl [Hf]; · iexact Hf
  iexact Hp2

/-- Hop 1 of a lane. -/
theorem mid1_spec (c : Dev nD) (ρ : Bool) (s : Fin 2) (k : Fin 4) (cr cw : Bool) (hcr : cr = decide (k.val < 3))
    (hcw : cw = decide (0 < k.val)) {n m : ℕ} (hok : Mid1Ok ρ s k cr n m) (K : Pr F) (Q : PUnit → sProp 𝕄) :
    iprop(Ctx X V κ ν ∗ Open c ∗ St c n m ∗ lane X V c ρ s k 1)
      ⊢ iprop(((St c (n + cr.toNat + 1) (m + 1 + cw.toNat) ∗ lane X V c ρ s k 2) -∗ Wp c K Q)
        -∗ Wp c (hopMid (nx c) ρ 1 s cr cw (P X V c ρ k 2) K) Q) := by
  unfold hopMid lane
  iintro ⟨#HC, #HO, HS, H0, Hp0, Hf, Hp2⟩ Hk
  iapply (waitHop_spec X V κ ν c ρ 1 s k hok.1.2.1 hok.1.1 hok.1.2.2.1) $$ [HS Hf]
  · isplitr; · iexact HC
    isplitl [HS] <;> iassumption
  iintro ⟨HS, Hp1, H1, H2⟩
  iapply (credit_spec X V κ ν c ρ k 0 s cr hcr hok.2.1) $$ [HS Hp0 H1]
  · isplitr; · iexact HC
    isplitl [HS]; · iexact HS
    isplitl [Hp0]; · iexact Hp0
    iexact H1
  iintro ⟨HS, Hb0⟩
  iapply (ldAt_spec c ρ (Fin.succ 1) s) $$ H2; iintro H2
  ihave H2 := (laneAt_any c ρ (Fin.succ 1) s _) $$ H2
  iapply (ldAny_spec c ρ (Fin.succ 1) s) $$ H2; iintro %_ H2
  iapply (st_spec c ρ (Fin.succ 1) s) $$ H2; iintro H2
  iapply (credWait_spec X V κ ν c ρ k 2 s cw hcw hok.2.2.1) $$ [HS]
  · isplitr; · iexact HC
    isplitr; · iexact HO
    iexact HS
  iintro ⟨HS, Hc⟩
  iapply (send_spec X V κ ν c ρ 2 s k hok.2.2.2.2 hok.2.2.2.1) $$ [HS Hp2 H2 Hc]
  · isplitr; · iexact HC
    isplitl [HS]; · iexact HS
    isplitl [Hp2]; · iexact Hp2
    isplitl [H2]; · iexact H2
    iexact Hc
  iintro ⟨HS, Hf⟩
  iapply Hk
  isplitl [HS]; · iexact HS
  isplitl [H0]; · iexact H0
  isplitl [Hb0]; · iexact Hb0
  isplitl [Hp1]; · iexact Hp1
  iexact Hf

/-- Hop 2 of a lane. -/
theorem end_spec (c : Dev nD) (ρ : Bool) (s : Fin 2) (k : Fin 4) (cr : Bool) (hcr : cr = decide (k.val < 3)) {n m : ℕ}
    (hok : EndOk ρ s k n m) (K : Pr F) (Q : PUnit → sProp 𝕄) :
    iprop(Ctx X V κ ν ∗ St c n m ∗ lane X V c ρ s k 2)
      ⊢ iprop(((St c (n + cr.toNat) (m + 1) ∗ lane X V c ρ s k 3) -∗ Wp c K Q) -∗ Wp c (hopEnd (nx c) ρ s cr K) Q) := by
  unfold hopEnd lane
  iintro ⟨#HC, HS, H0, Hb0, Hp1, Hf⟩ Hk
  iapply (waitHop_spec X V κ ν c ρ 2 s k hok.1.2.1 hok.1.1 hok.1.2.2.1) $$ [HS Hf]
  · isplitr; · iexact HC
    isplitl [HS] <;> iassumption
  iintro ⟨HS, Hp2, H2, H3⟩
  iapply (credit_spec X V κ ν c ρ k 1 s cr hcr hok.2) $$ [HS Hp1 H2]
  · isplitr; · iexact HC
    isplitl [HS]; · iexact HS
    isplitl [Hp1]; · iexact Hp1
    iexact H2
  iintro ⟨HS, Hb1⟩
  iapply Hk
  isplitl [HS]; · iexact HS
  isplitl [H0]; · iexact H0
  isplitl [Hb0]; · iexact Hb0
  isplitl [Hb1]; · iexact Hb1
  isplitl [Hp2]; · iexact Hp2
  iexact H3

end Cert.Proof

end
-- ==== Proof.Turns.lean ====
/-
  A round of the kernel: the products, the hops of the four lanes, and the sums.
-/
module

public import proofs.«01_k».proof.Proof.Hops
public import Idealize.ShloMosaic.Lib.ReshapeSlab

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))
variable (κ : Dev nD × CK → ℕ) (ν : Key → ℕ)

/-! ### The operands -/

/-- A device's staged operands. -/
def xw (c : Dev nD) : sProp 𝕄 :=
  iprop(((c : Thread nD τ).loc cc0_stg0_0 ↦{fullShare} X c) ∗ ((c : Thread nD τ).loc cc0_stg1_0 ↦{fullShare} V c))

/-- A product of a block of rows and a tile of columns. -/
theorem ldP_spec (c : Dev nD) (ρ : Bool) (k j : Fin 4) (K : FVec F S1024x1024 .bf16 → Pr F) (Q : PUnit → sProp 𝕄) :
    xw X V c ⊢ iprop((xw X V c -∗ Wp c (K (P X V c ρ k j)) Q) -∗ Wp c (ldP (xoT c) ρ k j K) Q) := by
  unfold xw ldP P
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx] <;> iassumption

/-! ### The hops -/

/-- One assertion for each lane. -/
def four (f : Bool → Fin 2 → sProp 𝕄) : sProp 𝕄 := iprop(f false 0 ∗ f true 0 ∗ f false 1 ∗ f true 1)

/-- What the hops of a round need of the order. -/
def HopsOk (k : Fin 4) (cr cw : Bool) (n m : ℕ) : Prop :=
  let a := cr.toNat; let b := cw.toNat
  (Mid0Ok false 0 k n m ∧ Mid0Ok true 0 k (n + 1) (m + 1 + b) ∧ Mid0Ok false 1 k (n + 1 + 1) (m + 1 + b + 1 + b)
    ∧ Mid0Ok true 1 k (n + 1 + 1 + 1) (m + 1 + b + 1 + b + 1 + b))
  ∧ (let n := n + 1 + 1 + 1 + 1; let m := m + 1 + b + 1 + b + 1 + b + 1 + b
    (Mid1Ok false 0 k cr n m ∧ Mid1Ok true 0 k cr (n + a + 1) (m + 1 + b) ∧ Mid1Ok false 1 k cr (n + a + 1 + a + 1) (m + 1 + b + 1 + b)
      ∧ Mid1Ok true 1 k cr (n + a + 1 + a + 1 + a + 1) (m + 1 + b + 1 + b + 1 + b))
    ∧ (let n := n + a + 1 + a + 1 + a + 1 + a + 1; let m := m + 1 + b + 1 + b + 1 + b + 1 + b
      EndOk false 0 k n m ∧ EndOk true 0 k (n + a) (m + 1) ∧ EndOk false 1 k (n + a + a) (m + 1 + 1)
        ∧ EndOk true 1 k (n + a + a + a) (m + 1 + 1 + 1)))
instance (k : Fin 4) (cr cw : Bool) (n m : ℕ) : Decidable (HopsOk k cr cw n m) := by unfold HopsOk; infer_instance

/-- The three hops of a round. -/
theorem hops_spec (c : Dev nD) (k : Fin 4) (cr cw : Bool) (hcr : cr = decide (k.val < 3)) (hcw : cw = decide (0 < k.val)) {n m : ℕ}
    (hok : HopsOk k cr cw n m) (K : FVec F S1024x1024 .bf16 → FVec F S1024x1024 .bf16 → Pr F) (Q : PUnit → sProp 𝕄) :
    iprop(Ctx X V κ ν ∗ Open c ∗ xw X V c ∗ St c n m ∗ four fun ρ s => lane X V c ρ s k 0)
      ⊢ iprop(((xw X V c
          ∗ St c (n + 1 + 1 + 1 + 1 + cr.toNat + 1 + cr.toNat + 1 + cr.toNat + 1 + cr.toNat + 1 + cr.toNat + cr.toNat + cr.toNat + cr.toNat)
            (m + 1 + cw.toNat + 1 + cw.toNat + 1 + cw.toNat + 1 + cw.toNat + 1 + cw.toNat + 1 + cw.toNat + 1 + cw.toNat + 1 + cw.toNat + 1 + 1 + 1 + 1)
          ∗ four fun ρ s => lane X V c ρ s k 3) -∗ Wp c (K (P X V c false k 3) (P X V c true k 3)) Q)
        -∗ Wp c (hops (nx c) (xoT c) k cr cw (P X V c false k 1) (P X V c true k 1) K) Q) := by
  obtain ⟨⟨a1, a2, a3, a4⟩, ⟨b1, b2, b3, b4⟩, d1, d2, d3, d4⟩ := hok
  unfold hops hopMids four
  iintro ⟨#HC, #HO, Hx, HS, H1, H2, H3, H4⟩ Hk
  iapply (mid0_spec X V κ ν c false 0 k cw hcw a1) $$ [HS H1]
  · isplitr; · iexact HC
    isplitr; · iexact HO
    isplitl [HS] <;> iassumption
  iintro ⟨HS, H1⟩
  iapply (mid0_spec X V κ ν c true 0 k cw hcw a2) $$ [HS H2]
  · isplitr; · iexact HC
    isplitr; · iexact HO
    isplitl [HS] <;> iassumption
  iintro ⟨HS, H2⟩
  iapply (mid0_spec X V κ ν c false 1 k cw hcw a3) $$ [HS H3]
  · isplitr; · iexact HC
    isplitr; · iexact HO
    isplitl [HS] <;> iassumption
  iintro ⟨HS, H3⟩
  iapply (mid0_spec X V κ ν c true 1 k cw hcw a4) $$ [HS H4]
  · isplitr; · iexact HC
    isplitr; · iexact HO
    isplitl [HS] <;> iassumption
  iintro ⟨HS, H4⟩
  iapply (ldP_spec X V c false k 2) $$ Hx; iintro Hx
  iapply (ldP_spec X V c true k 2) $$ Hx; iintro Hx
  iapply (mid1_spec X V κ ν c false 0 k cr cw hcr hcw b1) $$ [HS H1]
  · isplitr; · iexact HC
    isplitr; · iexact HO
    isplitl [HS] <;> iassumption
  iintro ⟨HS, H1⟩
  iapply (mid1_spec X V κ ν c true 0 k cr cw hcr hcw b2) $$ [HS H2]
  · isplitr; · iexact HC
    isplitr; · iexact HO
    isplitl [HS] <;> iassumption
  iintro ⟨HS, H2⟩
  iapply (mid1_spec X V κ ν c false 1 k cr cw hcr hcw b3) $$ [HS H3]
  · isplitr; · iexact HC
    isplitr; · iexact HO
    isplitl [HS] <;> iassumption
  iintro ⟨HS, H3⟩
  iapply (mid1_spec X V κ ν c true 1 k cr cw hcr hcw b4) $$ [HS H4]
  · isplitr; · iexact HC
    isplitr; · iexact HO
    isplitl [HS] <;> iassumption
  iintro ⟨HS, H4⟩
  iapply (ldP_spec X V c false k 3) $$ Hx; iintro Hx
  iapply (ldP_spec X V c true k 3) $$ Hx; iintro Hx
  iapply (end_spec X V κ ν c false 0 k cr hcr d1) $$ [HS H1]
  · isplitr; · iexact HC
    isplitl [HS] <;> iassumption
  iintro ⟨HS, H1⟩
  iapply (end_spec X V κ ν c true 0 k cr hcr d2) $$ [HS H2]
  · isplitr; · iexact HC
    isplitl [HS] <;> iassumption
  iintro ⟨HS, H2⟩
  iapply (end_spec X V κ ν c false 1 k cr hcr d3) $$ [HS H3]
  · isplitr; · iexact HC
    isplitl [HS] <;> iassumption
  iintro ⟨HS, H3⟩
  iapply (end_spec X V κ ν c true 1 k cr hcr d4) $$ [HS H4]
  · isplitr; · iexact HC
    isplitl [HS] <;> iassumption
  iintro ⟨HS, H4⟩
  iapply Hk
  isplitl [Hx]; · iexact Hx
  isplitl [HS]; · iexact HS
  isplitl [H1]; · iexact H1
  isplitl [H2]; · iexact H2
  isplitl [H3]; · iexact H3
  iexact H4

/-! ### The start of a round -/

/-- The first blocks put into slot 0. -/
theorem fill_spec (c : Dev nD) (k : Fin 4) (K : Pr F) (Q : PUnit → sProp 𝕄) :
    iprop(xw X V c ∗ four fun ρ s => laneAny c ρ 0 s)
      ⊢ iprop(((xw X V c ∗ four fun ρ s => laneAt c ρ 0 s (outgo X V ρ k s 0 c)) -∗ Wp c K Q) -∗ Wp c (fill (xoT c) k K) Q) := by
  unfold fill four
  iintro ⟨Hx, H1, H2, H3, H4⟩ Hk
  iapply (ldP_spec X V c false k 0) $$ Hx; iintro Hx
  iapply (stLanes_spec c false 0) $$ [H1 H3]
  · isplitl [H1] <;> iassumption
  iintro ⟨H1, H3⟩
  iapply (ldP_spec X V c true k 0) $$ Hx; iintro Hx
  iapply (stLanes_spec c true 0) $$ [H2 H4]
  · isplitl [H2] <;> iassumption
  iintro ⟨H2, H4⟩
  iapply Hk
  isplitl [Hx]; · iexact Hx
  isplitl [H1]; · iexact H1
  isplitl [H2]; · iexact H2
  isplitl [H3]; · iexact H3
  iexact H4

/-- What a round's start needs of the order. -/
def KickOk (k : Fin 4) (cw : Bool) (n m : ℕ) : Prop :=
  let b := cw.toNat
  (CredWaitOk false k 0 0 m n ∧ Pays n (.snd false k 0 0)) ∧ (CredWaitOk true k 0 0 (m + b) (n + 1) ∧ Pays (n + 1) (.snd true k 0 0))
    ∧ (CredWaitOk false k 0 1 (m + b + b) (n + 1 + 1) ∧ Pays (n + 1 + 1) (.snd false k 0 1))
    ∧ (CredWaitOk true k 0 1 (m + b + b + b) (n + 1 + 1 + 1) ∧ Pays (n + 1 + 1 + 1) (.snd true k 0 1))
instance (k : Fin 4) (cw : Bool) (n m : ℕ) : Decidable (KickOk k cw n m) := by unfold KickOk; infer_instance

/-- A lane's first transfer of a round. -/
theorem kick1_spec (c : Dev nD) (ρ : Bool) (s : Fin 2) (k : Fin 4) (cw : Bool) (hcw : cw = decide (0 < k.val)) {n m : ℕ}
    (hok : CredWaitOk ρ k 0 s m n ∧ Pays n (.snd ρ k 0 s)) (K : Pr F) (Q : PUnit → sProp 𝕄) :
    iprop(Ctx X V κ ν ∗ Open c ∗ St c n m ∗ pos c ρ 0 s k.val (k.val + 1) ∗ laneAt c ρ 0 s (outgo X V ρ k s 0 c))
      ⊢ iprop(((St c (n + 1) (m + cw.toNat) ∗ fly c ρ 0 s k.val) -∗ Wp c K Q) -∗ Wp c (credWait ρ cw (send (nx c) ρ 0 s K)) Q) := by
  iintro ⟨#HC, #HO, HS, Hp, H0⟩ Hk
  iapply (credWait_spec X V κ ν c ρ k 0 s cw hcw hok.1) $$ [HS]
  · isplitr; · iexact HC
    isplitr; · iexact HO
    iexact HS
  iintro ⟨HS, Hc⟩
  iapply (send_spec X V κ ν c ρ 0 s k hok.2.2 hok.2.1) $$ [HS Hp H0 Hc]
  · isplitr; · iexact HC
    isplitl [HS]; · iexact HS
    isplitl [Hp]; · iexact Hp
    isplitl [H0]; · iexact H0
    iexact Hc
  iexact Hk

/-- The transfers that start a round. -/
theorem kick_spec (c : Dev nD) (k : Fin 4) (cw : Bool) (hcw : cw = decide (0 < k.val)) {n m : ℕ} (hok : KickOk k cw n m)
    (K : FVec F S1024x1024 .bf16 → FVec F S1024x1024 .bf16 → Pr F) (Q : PUnit → sProp 𝕄) :
    iprop(Ctx X V κ ν ∗ Open c ∗ xw X V c ∗ St c n m
        ∗ (four fun ρ s => pos c ρ 0 s k.val (k.val + 1)) ∗ four fun ρ s => laneAt c ρ 0 s (outgo X V ρ k s 0 c))
      ⊢ iprop(((xw X V c ∗ St c (n + 1 + 1 + 1 + 1) (m + cw.toNat + cw.toNat + cw.toNat + cw.toNat) ∗ four fun ρ s => fly c ρ 0 s k.val)
          -∗ Wp c (K (P X V c false k 1) (P X V c true k 1)) Q)
        -∗ Wp c (kick (nx c) (xoT c) k cw K) Q) := by
  obtain ⟨h1, h2, h3, h4⟩ := hok
  unfold kick four
  iintro ⟨#HC, #HO, Hx, HS, ⟨P1, P2, P3, P4⟩, L1, L2, L3, L4⟩ Hk
  iapply (kick1_spec X V κ ν c false 0 k cw hcw h1) $$ [HS P1 L1]
  · isplitr; · iexact HC
    isplitr; · iexact HO
    isplitl [HS]; · iexact HS
    isplitl [P1] <;> iassumption
  iintro ⟨HS, P1⟩
  iapply (kick1_spec X V κ ν c true 0 k cw hcw h2) $$ [HS P2 L2]
  · isplitr; · iexact HC
    isplitr; · iexact HO
    isplitl [HS]; · iexact HS
    isplitl [P2] <;> iassumption
  iintro ⟨HS, P2⟩
  iapply (kick1_spec X V κ ν c false 1 k cw hcw h3) $$ [HS P3 L3]
  · isplitr; · iexact HC
    isplitr; · iexact HO
    isplitl [HS]; · iexact HS
    isplitl [P3] <;> iassumption
  iintro ⟨HS, P3⟩
  iapply (kick1_spec X V κ ν c true 1 k cw hcw h4) $$ [HS P4 L4]
  · isplitr; · iexact HC
    isplitr; · iexact HO
    isplitl [HS]; · iexact HS
    isplitl [P4] <;> iassumption
  iintro ⟨HS, P4⟩
  iapply (ldP_spec X V c false k 1) $$ Hx; iintro Hx
  iapply (ldP_spec X V c true k 1) $$ Hx; iintro Hx
  iapply Hk
  isplitl [Hx]; · iexact Hx
  isplitl [HS]; · iexact HS
  isplitl [P1]; · iexact P1
  isplitl [P2]; · iexact P2
  isplitl [P3]; · iexact P3
  iexact P4

/-! ### The sums -/

/-- The ring, round and lane of the `i`-th sum in program order. -/
def rgI (i : ℕ) : Bool := i % 2 == 1
def rdI (i : ℕ) : Fin 4 := Fin.ofNat 4 (i / 4)
def lnI (i : ℕ) : Fin 2 := Fin.ofNat 2 (i / 2)

/-- A device's sums, the first `n` of them kept. -/
def yAt (c : Dev nD) (n : ℕ) : sProp 𝕄 :=
  iprop(∃ f : Buf (Elt F) ((c : Thread nD τ).loc cc0_scratch2),
    ⌜∀ i, i < n → (yM.access (ocolRect (tileOf (rgI i) (rdI i)) (lnI i))).read (Elt F) f = ykeep (yv X V c (rgI i) (rdI i) (lnI i))⌝
    ∗ ((c : Thread nD τ).loc cc0_scratch2 ↦{fullShare} f))

theorem ocol_sep (t t' : Fin 8) (s s' : Fin 2) (h : ¬(t = t' ∧ s = s')) {κ : Kind} {sp : Space} {e : EltTy} (v : View sig κ sp S1024x8192 e) :
    Disjoint (v.slice (ocolRect t s)).set (v.slice (ocolRect t' s')).set := by
  refine View.disjoint_slice_of_sep v _ _ (1 : Fin 2) rfl rfl ?_
  show t.val * 1024 + s.val * 512 + 512 ≤ t'.val * 1024 + s'.val * 512 ∨ t'.val * 1024 + s'.val * 512 + 512 ≤ t.val * 1024 + s.val * 512
  have h' : ¬(t.val = t'.val ∧ s.val = s'.val) := fun e => h ⟨Fin.ext e.1, Fin.ext e.2⟩
  omega

theorem sums_apart : ∀ i j : Fin 16, i ≠ j → ¬(tileOf (rgI i.val) (rdI i.val) = tileOf (rgI j.val) (rdI j.val) ∧ lnI i.val = lnI j.val) := by
  decide +kernel

/-- A lane's sum. -/
theorem fin_spec (c : Dev nD) (i : ℕ) (hi : i < 16) (ρ : Bool) (k : Fin 4) (s : Fin 2) (hix : rgI i = ρ ∧ rdI i = k ∧ lnI i = s) (cr : Bool)
    (hcr : cr = decide (k.val < 3)) {n m : ℕ} (hok : CreditOk ρ k 2 s n) (K : F .f32 → Pr F) (Q : PUnit → sProp 𝕄) :
    iprop(Ctx X V κ ν ∗ St c n m ∗ yAt X V c i ∗ pos c ρ 2 s (k.val + 1) (k.val + 1) ∗ laneAt c ρ 3 s (income X V ρ k s 2 c))
      ⊢ iprop(((St c (n + cr.toNat) m ∗ yAt X V c (i + 1) ∗ back c ρ 2 s k) -∗ Wp c (K (amN X V c (i + 1))) Q)
        -∗ Wp c (fin (nx c) ρ k s cr (P X V c ρ k 3) (amN X V c i) K) Q) := by
  have ham : amN X V c (i + 1) = amax (amN X V c i) (yv X V c (rgI i) (rdI i) (lnI i)) := rfl
  obtain ⟨rfl, rfl, rfl⟩ := hix
  rw [ham]
  unfold fin
  iintro ⟨#HC, HS, Hy, Hp, H3⟩ Hk
  iapply (ldAt_spec c _ 3 _) $$ H3; iintro H3
  ihave H3 := (laneAt_any c _ 3 _ _) $$ H3
  unfold yAt
  icases Hy with ⟨%f, %hf, Hy⟩
  iapply (wp_load 𝒱₀ (c : Thread nD τ) none Set.univ (m := yM) (Finset.subset_univ _)) $$ Hy; iintro Hy
  iapply (wp_store 𝒱₀ (c : Thread nD τ) none Set.univ (m := yM) (r := ocolRect (tileOf (rgI i) (rdI i)) (lnI i)) (Mk := Finset.univ)
    (Finset.subset_univ _)) $$ Hy; iintro Hy
  iapply (credit_spec X V κ ν c (rgI i) (rdI i) 2 (lnI i) cr hcr hok) $$ [HS Hp H3]
  · isplitr; · iexact HC
    isplitl [HS]; · iexact HS
    isplitl [Hp]; · iexact Hp
    iexact H3
  iintro ⟨HS, Hb⟩
  iapply Hk
  isplitl [HS]; · iexact HS
  isplitr [Hb]; swap; · iexact Hb
  iexists _
  isplitr; swap; · iexact Hy
  ipureintro
  intro j hj
  by_cases hji : j = i
  · subst hji; exact View.read_write_univ _ _
  · refine (View.read_slice_write_slice_of_disjoint _ _ _ _ _ ?_).trans (hf j (by omega))
    exact ocol_sep _ _ _ _ (sums_apart ⟨j, by omega⟩ ⟨i, hi⟩ fun e => hji (congrArg Fin.val e)) _

/-- What the sums of a round need of the order. -/
def FinsOk (k : Fin 4) (cr : Bool) (n : ℕ) : Prop :=
  let a := cr.toNat
  CreditOk false k 2 0 n ∧ CreditOk true k 2 0 (n + a) ∧ CreditOk false k 2 1 (n + a + a) ∧ CreditOk true k 2 1 (n + a + a + a)
instance (k : Fin 4) (cr : Bool) (n : ℕ) : Decidable (FinsOk k cr n) := by unfold FinsOk; infer_instance

theorem sum_at : ∀ k : Fin 4, (rgI (4 * k.val) = false ∧ rdI (4 * k.val) = k ∧ lnI (4 * k.val) = 0)
    ∧ (rgI (4 * k.val + 1) = true ∧ rdI (4 * k.val + 1) = k ∧ lnI (4 * k.val + 1) = 0)
    ∧ (rgI (4 * k.val + 2) = false ∧ rdI (4 * k.val + 2) = k ∧ lnI (4 * k.val + 2) = 1)
    ∧ (rgI (4 * k.val + 3) = true ∧ rdI (4 * k.val + 3) = k ∧ lnI (4 * k.val + 3) = 1) := by decide

/-- The sums of a round. -/
theorem fins_spec (c : Dev nD) (k : Fin 4) (cr : Bool) (hcr : cr = decide (k.val < 3)) {n m : ℕ} (hok : FinsOk k cr n)
    (K : F .f32 → Pr F) (Q : PUnit → sProp 𝕄) :
    iprop(Ctx X V κ ν ∗ St c n m ∗ yAt X V c (4 * k.val) ∗ (four fun ρ s => pos c ρ 2 s (k.val + 1) (k.val + 1))
        ∗ four fun ρ s => laneAt c ρ 3 s (income X V ρ k s 2 c))
      ⊢ iprop(((St c (n + cr.toNat + cr.toNat + cr.toNat + cr.toNat) m ∗ yAt X V c (4 * k.val + 4) ∗ four fun ρ s => back c ρ 2 s k)
          -∗ Wp c (K (amN X V c (4 * k.val + 4))) Q)
        -∗ Wp c (fins (nx c) k cr (P X V c false k 3) (P X V c true k 3) (amN X V c (4 * k.val)) K) Q) := by
  obtain ⟨h1, h2, h3, h4⟩ := hok
  obtain ⟨i1, i2, i3, i4⟩ := sum_at k
  have hk := k.isLt
  unfold fins four
  iintro ⟨#HC, HS, Hy, ⟨P1, P2, P3, P4⟩, L1, L2, L3, L4⟩ Hk
  iapply (fin_spec X V κ ν c (4 * k.val) (by omega) false k 0 i1 cr hcr h1) $$ [HS Hy P1 L1]
  · isplitr; · iexact HC
    isplitl [HS]; · iexact HS
    isplitl [Hy]; · iexact Hy
    isplitl [P1] <;> iassumption
  iintro ⟨HS, Hy, P1⟩
  iapply (fin_spec X V κ ν c (4 * k.val + 1) (by omega) true k 0 i2 cr hcr h2) $$ [HS Hy P2 L2]
  · isplitr; · iexact HC
    isplitl [HS]; · iexact HS
    isplitl [Hy]; · iexact Hy
    isplitl [P2] <;> iassumption
  iintro ⟨HS, Hy, P2⟩
  iapply (fin_spec X V κ ν c (4 * k.val + 2) (by omega) false k 1 i3 cr hcr h3) $$ [HS Hy P3 L3]
  · isplitr; · iexact HC
    isplitl [HS]; · iexact HS
    isplitl [Hy]; · iexact Hy
    isplitl [P3] <;> iassumption
  iintro ⟨HS, Hy, P3⟩
  iapply (fin_spec X V κ ν c (4 * k.val + 3) (by omega) true k 1 i4 cr hcr h4) $$ [HS Hy P4 L4]
  · isplitr; · iexact HC
    isplitl [HS]; · iexact HS
    isplitl [Hy]; · iexact Hy
    isplitl [P4] <;> iassumption
  iintro ⟨HS, Hy, P4⟩
  iapply Hk
  isplitl [HS]; · iexact HS
  isplitl [Hy]; · iexact Hy
  isplitl [P1]; · iexact P1
  isplitl [P2]; · iexact P2
  isplitl [P3]; · iexact P3
  iexact P4

end Cert.Proof

end
-- ==== Proof.Exchange.lean ====
/-
  The barrier and the exchange of the maxima.
-/
module

public import proofs.«01_k».proof.Proof.Turns

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))
variable (κ : Dev nD × CK → ℕ) (ν : Key → ℕ)

/-! ### The barrier -/

/-- The slots of the exchange that a device fills at its neighbours. -/
def axTo (c : Dev nD) : sProp 𝕄 := iprop(axAny (F := F) (nx c false) 1 ∗ axAny (nx c false) 4 ∗ axAny (nx c true) 2)

/-- A signal of the barrier: the slots of a ring are said to be clear, and the exchange's slots given. -/
theorem signal_spec (c : Dev nD) (ρ : Bool) {n m : ℕ} (hp : Pays n (.bar ρ)) (K : PUnit → Pr F) (Q : PUnit → sProp 𝕄) :
    iprop(Ctx X V κ ν ∗ St c n m ∗ openSlots c ρ ∗ openAx c ρ)
      ⊢ iprop((St c (n + 1) m -∗ Wp c (K ⟨⟩) Q) -∗ Wp c (.op (.semSignal (nx c (!ρ), .tc) barS (1#32 : BitVec 32).toInt) K) Q) := by
  iintro ⟨#HC, HS, #Hs, Ha⟩ Hk
  ihave HS' := (St_pay c (by rw [hp.2]; intro; rfl)) $$ HS
  icases HS' with ⟨Ht, HS⟩
  ihave Ht' := (todo_take c hp.1) $$ Ht
  rw [hp.2]
  unfold evRes
  icases Ht' with ⟨⟨%W, HO⟩, ⟨Hd, -⟩, Hrest⟩
  ihave #HI := (Ctx_inv X V κ ν (nx c (!ρ)) .bar) $$ HC
  ihave #Hr0 := (Ctx_reached X V κ ν (nx c (!ρ)) .bar) $$ HC
  have hd : (Ev.bar ρ).duty ∈ (Rd X V).duties (cell (nx c (!ρ)) .bar) 0 := by
    rw [Rd_duties]; cases ρ <;> decide
  iapply (Rounds.wp_signal 𝒱₀ ER (Rd X V) (c : Thread nD τ) none (dst := (nx c (!ρ) : Thread nD τ)) (sem := barS) (κ := κ (nx c (!ρ), .bar))
    (r := 0) (d := (Ev.bar ρ).duty) (k' := 1) hd (Rd_amount X V (nx c (!ρ)) .bar 0 _) (ixE (.bar ρ)) (Ov c (n + 1)) rfl (W := W)) $$ [HO Hd Ha]
  · isplitr; · iexact HI
    isplitl [HO]; · iexact HO
    isplitl [Hd]; · iexact Hd
    isplitl
    · have e : iprop(openSlots (F := F) c ρ ∗ openAx c ρ) ⊢ (Rd X V).payload ((nx c (!ρ) : Thread nD τ), SemLoc.reg barS) 0 (Ev.bar ρ).duty := by
        rw [show (Rd X V).payload ((nx c (!ρ) : Thread nD τ), SemLoc.reg barS) 0 (Ev.bar ρ).duty = _ from
          Rd_payload X V (nx c (!ρ)) .bar 0 _]
        dsimp only [payK]
        rw [show ((Ev.bar ρ).duty == 1) = ρ by cases ρ <;> rfl, nx_not']
      iapply e
      isplitr; · iexact Hs
      iexact Ha
    iexact Hr0
  iintro HO
  iapply Hk
  iapply HS
  unfold todo
  isplitl [HO]; · iexists W; iexact HO
  iexact Hrest

/-- The barrier. -/
theorem barrier_spec (c : Dev nD) (K : Pr F) (Q : PUnit → sProp 𝕄) :
    iprop(Ctx X V κ ν ∗ St c 0 0 ∗ (openSlots c false ∗ openAx c false) ∗ (openSlots c true ∗ openAx c true) ∗ atPos ER (cell c .bar) 0 ∅ 0)
      ⊢ iprop(((St c 2 2 ∗ Open c ∗ axTo c ∗ atPos ER (cell c .bar) 1 ∅ 0) -∗ Wp c K Q) -∗ Wp c (barrier (nx c) K) Q) := by
  unfold barrier
  iintro ⟨#HC, HS, ⟨Hs0, Ha0⟩, ⟨Hs1, Ha1⟩, Hat⟩ Hk
  iapply (signal_spec X V κ ν c false (n := 0) (m := 0) (by decide +kernel)) $$ [HS Hs0 Ha0]
  · isplitr; · iexact HC
    isplitl [HS]; · iexact HS
    isplitl [Hs0] <;> iassumption
  iintro HS
  iapply (signal_spec X V κ ν c true (n := 1) (m := 0) (by decide +kernel)) $$ [HS Hs1 Ha1]
  · isplitr; · iexact HC
    isplitl [HS]; · iexact HS
    isplitl [Hs1] <;> iassumption
  iintro HS
  ihave HS' := (St_collect c (n := 2) (m := 0) (by decide) (by decide +kernel)) $$ HS
  icases HS' with ⟨⟨Ht, Hw⟩, HS⟩
  ispecialize HS $$ Ht
  ihave HS' := (St_collect c (n := 2) (m := 1) (by decide) (by decide +kernel)) $$ HS
  icases HS' with ⟨⟨Ht, Hw'⟩, HS⟩
  rw [show wtAt 0 = .bar false by decide +kernel, show wtAt 1 = .bar true by decide +kernel]
  unfold wtRes
  rw [show ixE (.bar false) = 1 by decide +kernel, show ixE (.bar true) = 1 by decide +kernel]
  have hcr : iprop(cred (tallyAt (cell c (Ev.bar false).ck) 1 (Ev.bar false).amt) ∗ cred (tallyAt (cell c (Ev.bar true).ck) 1 (Ev.bar true).amt))
      ⊢ (cred (tallyAt (cell c .bar) 1 2) : sProp 𝕄) := by
    rw [← show (tallyAt (cell c .bar) 1 1 + tallyAt (cell c .bar) 1 1 : CellTallies nD τ sig ℕ) = tallyAt (cell c .bar) 1 2 from tallyAt_add _ _ _ _]
    exact (cred_add _ _).2
  ihave Hcr := hcr $$ [Hw Hw']
  · isplitl [Hw] <;> iassumption
  unfold todo
  icases Ht with ⟨⟨%W, HO⟩, Hrest⟩
  ihave #HI := (Ctx_inv X V κ ν c .bar) $$ HC
  ihave #Hlev := (Ctx_lev X V κ ν) $$ HC
  iapply (Rounds.wp_wait_rest_token 𝒱₀ ER (Rd X V) (c : Thread nD τ) none (κ := κ (c, .bar)) (sm := semOf .bar) (k' := 2)
    (fun K => wpE_semWait_eq 𝒱₀ (c : Thread nD τ) none Set.univ K) (Set.mem_univ _) 1
    (O := Ov c 2) (W := W) (R := 0) (m := 0) (T := ∅) (by rw [Nat.zero_add, expect_bar X V c])) $$ [HO Hcr Hat]
  · isplitr; · iexact HI
    isplitl [Hcr]; · iexact Hcr
    isplitl [HO]; · iexact HO
    isplitr; · iapply (mayOwe c (semOf .bar) (n := 2) (by decide) (by decide)); iexact Hlev
    iexact Hat
  iintro ⟨HO, Hat, -, Hpay⟩
  have hpay : bigSep ((Rd X V).duties (cell c .bar) 0 \ ∅) (fun d => (Rd X V).payload (cell c .bar) 0 d)
      ⊢ iprop((openSlots (nx c false) false ∗ openAx (nx c false) false) ∗ (openSlots (nx c true) true ∗ openAx (nx c true) true)) := by
    rw [Rd_duties, show dutiesK 0 .bar = {0, 1} from rfl, Finset.sdiff_empty, bigSep_insert (by decide), bigSep_singleton, Rd_payload, Rd_payload]
    exact BI.Entails.refl _
  ihave Hp := hpay $$ Hpay
  unfold openAx
  icases Hp with ⟨⟨Hs0, ⟨Ha1, Ha4⟩⟩, Hs1, Ha2⟩
  iapply Hk
  isplitl [HS HO Hrest]
  · iapply HS
    isplitl [HO]; · iexists _; iexact HO
    iexact Hrest
  isplitl [Hs0 Hs1]
  · unfold Open; isplitl [Hs0] <;> iassumption
  isplitr [Hat]; swap; · iexact Hat
  unfold axTo
  isplitl [Ha1]; · iexact Ha1
  isplitl [Ha4] <;> iassumption

/-! ### The exchange -/

theorem ax_set (i : Fin 5) : (axM i).view.set = (aM.access (axRect i)).set := View.set_reshape _ _

/-- A slot of the exchange that was moved to another reads there as it read where it was. -/
theorem ax_moved (a b : Fin 5) (f : (axM a).view.ty.Contents (Elt F)) (g : (axM b).view.ty.Contents (Elt F)) :
    (aM.access (axRect b)).read (Elt F) ((axM b).view.write (Elt F) g ((axM a).view.read (Elt F) f) Finset.univ)
      = (aM.access (axRect a)).read (Elt F) f :=
  read_of_reshape (aM.access (axRect b)) (aM.access (axRect a)) (s' := S8x128) squeezes_S1x8x128_S8x128.numel_eq _ _ (View.read_write_univ _ _)

theorem axAt_any (c : Dev nD) (i : Fin 5) (v) : axAt (F := F) c i fullShare v ⊢ axAny c i := by
  unfold axAt axAny slot; iintro ⟨%f, -, H⟩; iexists f; iexact H

theorem ldAxAny_spec (c : Dev nD) (i : Fin 5) (K : Vec F S1x8x128 .f32 → Pr F) (Q : PUnit → sProp 𝕄) :
    axAny c i ⊢ iprop((∀ v, axAny c i -∗ Wp c (K v) Q) -∗ Wp c (ldAx i K) Q) := by
  unfold axAny slot ldAx
  iintro ⟨%f, H⟩ Hk
  iapply (wp_load_rect 𝒱₀ (c : Thread nD τ) none Set.univ (m := aM) (r := axRect i) (S := (axM i).view.set) (ax_set i).symm.subset) $$ H
  iintro H
  iapply Hk
  iexists f; iexact H

theorem ldAxAt_spec (c : Dev nD) (i : Fin 5) (q) (v) (K : Vec F S1x8x128 .f32 → Pr F) (Q : PUnit → sProp 𝕄) :
    axAt c i q v ⊢ iprop((axAt c i q v -∗ Wp c (K v) Q) -∗ Wp c (ldAx i K) Q) := by
  unfold axAt ldAx
  iintro ⟨%f, %hf, H⟩ Hk
  iapply (wp_load_rect 𝒱₀ (c : Thread nD τ) none Set.univ (m := aM) (r := axRect i) (S := (axM i).view.set) (ax_set i).symm.subset) $$ H
  iintro H
  rw [hf]
  iapply Hk
  iexists f
  isplitr; · ipureintro; exact hf
  iexact H

theorem stAx_spec (c : Dev nD) (i : Fin 5) (v : FVec F S1x8x128 .f32) (K : Pr F) (Q : PUnit → sProp 𝕄) :
    axAny c i ⊢ iprop((axAt c i fullShare v -∗ Wp c K Q) -∗ Wp c (stAx i v K) Q) := by
  unfold axAny slot stAx axAt
  iintro ⟨%f, H⟩ Hk
  iapply (wp_store 𝒱₀ (c : Thread nD τ) none Set.univ (m := aM) (r := axRect i) (Mk := Finset.univ) (S := (axM i).view.set)
    (ax_set i).symm.subset) $$ H
  iintro H
  iapply Hk
  iexists _
  isplitr; swap; · iexact H
  ipureintro; exact View.read_write_univ _ _

/-- A slot's two halves. -/
theorem axAt_halves (c : Dev nD) (i : Fin 5) (v) :
    axAt (F := F) c i fullShare v ⊢ iprop(axAt c i fullShare.left v ∗ axAt c i fullShare.right v) := by
  unfold axAt
  iintro ⟨%f, %hf, H⟩
  ihave H' := (pointsTo_share (I := (axM i).view.set) (f := f) (PosShare.mem_left_op_right fullShare)).1 $$ H
  icases H' with ⟨H1, H2⟩
  isplitl [H1]
  · iexists f; isplitr; · ipureintro; exact hf
    iexact H1
  · iexists f; isplitr; · ipureintro; exact hf
    iexact H2

theorem axAt_join (c : Dev nD) (i : Fin 5) (v w) :
    iprop(axAt (F := F) c i fullShare.left v ∗ axAt c i fullShare.right w) ⊢ axAny c i := by
  unfold axAt axAny slot
  iintro ⟨⟨%f, -, H1⟩, %g, -, H2⟩
  ihave H := (persistent_entails_right (pointsTo_agree (ℓ := (axM i).view.loc (c : Thread nD τ)) (I := (axM i).view.set) (J := (axM i).view.set)
    (f := f) (g := g) (q₁ := fullShare.left) (q₂ := fullShare.right))) $$ [H1 H2]
  · isplitl [H1] <;> iassumption
  icases H with ⟨%h, H1, H2⟩
  have e : ((axM i).view.loc (c : Thread nD τ) ↦[(axM i).view.set]{fullShare.right} g : sProp 𝕄)
      ⊢ ((axM i).view.loc (c : Thread nD τ) ↦[(axM i).view.set]{fullShare.right} f) :=
    Entails.of_eq (pointsTo_congr fun x hx => (h x (Finset.mem_inter.mpr ⟨hx, hx⟩)).1.symm)
  have e' : iprop(((axM i).view.loc (c : Thread nD τ) ↦[(axM i).view.set]{fullShare.left} f)
      ∗ ((axM i).view.loc (c : Thread nD τ) ↦[(axM i).view.set]{fullShare.right} f) : sProp 𝕄)
      ⊢ ((axM i).view.loc (c : Thread nD τ) ↦[(axM i).view.set]{fullShare} f) :=
    (pointsTo_share (PosShare.mem_left_op_right fullShare)).2
  ihave H2 := e $$ H2
  iexists f
  iapply e'
  isplitl [H1] <;> iassumption

/-- What a neighbour's slot takes is what the device's slot holds. -/
theorem axV_next (c : Dev nD) : ∀ i : Fin 3, axV X V (nx c (Ev.ax i).dir) (axDst i) = axV X V c (axSrc i)
  | 0 => by
    show toAx (spread (amD X V (nx (nx c false) (!false)))) = _
    rw [nx_not]; rfl
  | 1 => by
    show toAx (spread (amD X V (nx (nx c true) (!true)))) = _
    rw [nx_not]; rfl
  | 2 => by
    show toAx (axMax (spread (amD X V (nx (nx c false) (!false)))) (toAx (spread (amD X V (nx (nx (nx c false) (!false)) true))))) = _
    rw [nx_not]; rfl

/-- A transfer of the exchange, at its two cells. -/
theorem sendAx_raw (c : Dev nD) (i : Fin 3) (O : CellTallies nD τ sig ℕ) (j : ℕ)
    (f : (axM (axSrc i)).view.ty.Contents (Elt F)) (g : (axM (axDst i)).view.ty.Contents (Elt F)) (W : Idealize.ShloMosaic.Waits sig ℕ)
    (hf : (aM.access (axRect (axSrc i))).read (Elt F) f = axV X V c (axSrc i)) (K : Pr F) (Q : PUnit → sProp 𝕄) :
    iprop(cellInv ER (Rd X V) (κ (c, .axs i)) (cell c (.axs i)) ∗ cellInv ER (Rd X V) (κ (nx c (Ev.ax i).dir, .axr i)) (cell (nx c (Ev.ax i).dir) (.axr i))
        ∗ ((axM (axSrc i)).view.loc (c : Thread nD τ) ↦[(axM (axSrc i)).view.set]{axQ i} f)
        ∗ ((axM (axDst i)).view.loc (nx c (Ev.ax i).dir : Thread nD τ) ↦[(axM (axDst i)).view.set]{fullShare} g)
        ∗ owes (c : Thread nD τ) (O + tallyAt (cell (nx c (Ev.ax i).dir) (.axr i)) j NA) W
        ∗ dutyTok ER (cell c (.axs i)) 0 0 ∗ reached ER (cell c (.axs i)) 0
        ∗ dutyTok ER (cell (nx c (Ev.ax i).dir) (.axr i)) 0 0 ∗ reached ER (cell (nx c (Ev.ax i).dir) (.axr i)) 0)
      ⊢ iprop(((cred (tallyAt (cell c (.axs i)) 0 NA) ∗ owes (c : Thread nD τ) O W) -∗ Wp c K Q)
        -∗ Wp c (sendAx (nx c) (Ev.ax i).dir i (axSrc i) (axDst i) K) Q) := by
  have hd1 : 0 ∈ (Rd X V).duties (cell c (.axs i)) 0 := by rw [Rd_duties]; exact Finset.mem_singleton_self _
  have hd2 : 0 ∈ (Rd X V).duties (cell (nx c (Ev.ax i).dir) (.axr i)) 0 := by rw [Rd_duties]; exact Finset.mem_singleton_self _
  have hpay : ((axM (axDst i)).view.loc (nx c (Ev.ax i).dir : Thread nD τ) ↦[(axM (axDst i)).view.set]{fullShare}
        ((axM (axDst i)).view.write (Elt F) g ((axM (axSrc i)).view.read (Elt F) f) Finset.univ) : sProp 𝕄)
      ⊢ (Rd X V).payload (cell (nx c (Ev.ax i).dir) (.axr i)) 0 0 := by
    rw [Rd_payload]; dsimp only [payK]; unfold axAt
    iintro H
    iexists _
    isplitr; swap; · iexact H
    ipureintro
    rw [axV_next, ← hf]
    exact ax_moved (axSrc i) (axDst i) f g
  have hpay1 : ((axM (axSrc i)).view.loc (c : Thread nD τ) ↦[(axM (axSrc i)).view.set]{axQ i} f : sProp 𝕄)
      ⊢ (Rd X V).payload (cell c (.axs i)) 0 0 := by
    rw [Rd_payload]; dsimp only [payK]; unfold axAt
    iintro H; iexists f
    isplitr; · ipureintro; exact hf
    iexact H
  unfold sendAx
  exact Rounds.wp_send_pointsTo (defs := defs₀ (F := F)) (k := fun _ => K) (Q := Q) (Es := Set.univ) 𝒱₀ ER (Rd X V) (c : Thread nD τ) none
    (κ₁ := κ (c, .axs i)) (κ₂ := κ (nx c (Ev.ax i).dir, .axr i))
    (c' := (nx c (Ev.ax i).dir : Thread nD τ)) (src := axM (axSrc i)) (dst := axM (axDst i)) (sS := SemLoc.dma (aS i)) (sem := SemLoc.dma (aR i))
    (r₁ := 0) (r₂ := 0) (d₁ := 0) (d₂ := 0) (fs := f) (fd := g) hd1 hd2 j 0 NA (ax_credit (axDst i))
    (Rd_amount X V c (.axs i) 0 0) (Rd_amount X V (nx c (Ev.ax i).dir) (.axr i) 0 0) O rfl (W := W) hpay1 hpay

/-- Sending a slot of the exchange. -/
theorem sendAx_spec (c : Dev nD) (i : Fin 3) {n m : ℕ} (hp : Pays n (.ax i)) {ρ : Bool} {a b : Fin 5}
    (hab : ρ = (Ev.ax i).dir ∧ a = axSrc i ∧ b = axDst i) (K : Pr F) (Q : PUnit → sProp 𝕄) :
    iprop(Ctx X V κ ν ∗ St c n m ∗ axAt c a (axQ i) (axV X V c a) ∗ axAny (nx c ρ) b)
      ⊢ iprop(((St c (n + 1) m ∗ cred (tallyAt (cell c (.axs i)) 0 NA)) -∗ Wp c K Q) -∗ Wp c (sendAx (nx c) ρ i a b K) Q) := by
  obtain ⟨rfl, rfl, rfl⟩ := hab
  unfold axAt axAny slot
  iintro ⟨#HC, HS, ⟨%f, %hf, Hl⟩, %g, Hg⟩ Hk
  ihave HS' := (St_pay c (by rw [hp.2]; intro; rfl)) $$ HS
  icases HS' with ⟨Ht, HS⟩
  ihave Ht' := (todo_take c hp.1) $$ Ht
  rw [hp.2]
  unfold evRes
  icases Ht' with ⟨⟨%W, HO⟩, ⟨Hd, Hd'⟩, Hrest⟩
  ihave #HI1 := (Ctx_inv X V κ ν c (.axs i)) $$ HC
  ihave #HI2 := (Ctx_inv X V κ ν (nx c (Ev.ax i).dir) (.axr i)) $$ HC
  ihave #Hr1 := (Ctx_reached X V κ ν c (.axs i)) $$ HC
  ihave #Hr2 := (Ctx_reached X V κ ν (nx c (Ev.ax i).dir) (.axr i)) $$ HC
  iapply (sendAx_raw X V κ c i (Ov c (n + 1)) (ixE (.ax i)) f g W hf) $$ [HO Hd Hd' Hl Hg]
  · isplitr; · iexact HI1
    isplitr; · iexact HI2
    isplitl [Hl]; · iexact Hl
    isplitl [Hg]; · iexact Hg
    isplitl [HO]; · iexact HO
    isplitl [Hd']; · iexact Hd'
    isplitr; · iexact Hr1
    isplitl [Hd]; · iexact Hd
    iexact Hr2
  iintro ⟨Hcr, HO⟩
  iapply Hk
  isplitr [Hcr]; swap; · iexact Hcr
  iapply HS; unfold todo
  isplitl [HO]; · iexists W; iexact HO
  iexact Hrest

/-- Where a device stands at the two cells of a transfer of the exchange. -/
def axPos (c : Dev nD) (i : Fin 3) (r : ℕ) : sProp 𝕄 := iprop(atPos ER (cell c (.axs i)) r ∅ 0 ∗ atPos ER (cell c (.axr i)) r ∅ 0)

/-- Waiting for both sides of a transfer of the exchange. -/
theorem waitAx_spec (c : Dev nD) (i : Fin 3) {n m : ℕ} (hw : Waits m n (.ax i)) {a b : Fin 5} (hab : a = axSrc i ∧ b = axDst i)
    (K : Pr F) (Q : PUnit → sProp 𝕄) :
    iprop(Ctx X V κ ν ∗ St c n m ∗ axPos c i 0 ∗ cred (tallyAt (cell c (.axs i)) 0 NA))
      ⊢ iprop(((St c n (m + 1) ∗ axPos c i 1 ∗ axAt c a (axQ i) (axV X V c a) ∗ axAt c b fullShare (axV X V c b)) -∗ Wp c K Q)
        -∗ Wp c (waitAx i a b K) Q) := by
  obtain ⟨rfl, rfl⟩ := hab
  obtain ⟨hm, hwt, hi, hl⟩ := hw
  unfold waitAx axPos
  iintro ⟨#HC, HS, ⟨H1, H2⟩, Hcr⟩ Hk
  ihave HS' := (St_collect c hm (by rw [hwt]; intro; rfl)) $$ HS
  icases HS' with ⟨⟨Ht, Hw⟩, HS⟩
  rw [hwt]
  iapply (wait_todo X V κ ν c (.axs i) (r := 0) (i := 0) (n := n) rfl (by omega) (by omega)
    (fun K => (wpE_waitDma2_eq 𝒱₀ (c : Thread nD τ) none Set.univ K).trans (by rw [ax_credit]; rfl))) $$ [Ht Hcr H1]
  · isplitr; · iexact HC
    isplitl [Ht]; · iexact Ht
    isplitl [Hcr]; · iexact Hcr
    iexact H1
  iintro ⟨Ht, H1, -, Hp1⟩
  unfold wtRes
  iapply (wait_todo X V κ ν c (.axr i) (r := 0) (n := n) rfl hi hl
    (fun K => (wpE_waitDma2_eq 𝒱₀ (c : Thread nD τ) none Set.univ K).trans (by rw [ax_credit]; rfl))) $$ [Ht Hw H2]
  · isplitr; · iexact HC
    isplitl [Ht]; · iexact Ht
    isplitl [Hw]; · iexact Hw
    iexact H2
  iintro ⟨Ht, H2, -, Hp2⟩
  iapply Hk
  isplitl [HS Ht]; · iapply HS; iexact Ht
  isplitl [H1 H2]
  · isplitl [H1] <;> iassumption
  dsimp only [payK]
  isplitl [Hp1] <;> iassumption

/-- What a device has of the exchange. -/
def axAll (c : Dev nD) (r : ℕ) : sProp 𝕄 := iprop(axPos (F := F) c 0 r ∗ axPos c 1 r ∗ axPos c 2 r)

/-- The exchange of the maxima. -/
theorem exchange_spec (c : Dev nD) (K : F .f32 → Pr F) (Q : PUnit → sProp 𝕄) :
    iprop(Ctx X V κ ν ∗ St c 86 86 ∗ axAll c 0 ∗ axAny c 0 ∗ axAny c 3 ∗ axTo c)
      ⊢ iprop(((St c 89 89 ∗ axAll c 1 ∗ axAny c 0 ∗ axAny c 1 ∗ axAny c 2 ∗ axAny c 3 ∗ axAny c 4) -∗ Wp c (K (gD X V c)) Q)
        -∗ Wp c (exchange (nx c) (amD X V c) K) Q) := by
  unfold exchange axAll axTo
  iintro ⟨#HC, HS, ⟨A0, A1, A2⟩, H0, H3, T1, T4, T2⟩ Hk
  iapply (ldAxAny_spec c 0) $$ H0; iintro %_ H0
  iapply (stAx_spec c 0) $$ H0; iintro H0
  ihave H0' := (axAt_halves c 0 _) $$ H0
  icases H0' with ⟨H0, H0'⟩
  iapply (sendAx_spec X V κ ν c 0 (a := 0) (b := 1) (n := 86) (m := 86) (by decide +kernel) ⟨rfl, rfl, rfl⟩) $$ [HS H0 T1]
  · isplitr; · iexact HC
    isplitl [HS]; · iexact HS
    isplitl [H0]; · iexact H0
    iexact T1
  iintro ⟨HS, C0⟩
  iapply (sendAx_spec X V κ ν c 1 (a := 0) (b := 2) (n := 87) (m := 86) (by decide +kernel) ⟨rfl, rfl, rfl⟩) $$ [HS H0' T2]
  · isplitr; · iexact HC
    isplitl [HS]; · iexact HS
    isplitl [H0']; · iexact H0'
    iexact T2
  iintro ⟨HS, C1⟩
  iapply (waitAx_spec X V κ ν c 0 (a := 0) (b := 1) (n := 88) (m := 86) (by decide +kernel) ⟨rfl, rfl⟩) $$ [HS A0 C0]
  · isplitr; · iexact HC
    isplitl [HS]; · iexact HS
    isplitl [A0] <;> iassumption
  iintro ⟨HS, A0, H0, H1⟩
  iapply (waitAx_spec X V κ ν c 1 (a := 0) (b := 2) (n := 88) (m := 87) (by decide +kernel) ⟨rfl, rfl⟩) $$ [HS A1 C1]
  · isplitr; · iexact HC
    isplitl [HS]; · iexact HS
    isplitl [A1] <;> iassumption
  iintro ⟨HS, A1, H0', H2⟩
  ihave H0 := (axAt_join c 0 (axV X V c 0) (axV X V c 0)) $$ [H0 H0']
  · isplitl [H0]; · iexact H0
    iexact H0'
  iapply (ldAxAt_spec c 1 _ _) $$ H1; iintro H1
  iapply (ldAxAny_spec c 3) $$ H3; iintro %_ H3
  iapply (stAx_spec c 3) $$ H3; iintro H3
  iapply (sendAx_spec X V κ ν c 2 (a := 3) (b := 4) (n := 88) (m := 88) (by decide +kernel) ⟨rfl, rfl, rfl⟩) $$ [HS H3 T4]
  · isplitr; · iexact HC
    isplitl [HS]; · iexact HS
    isplitl [H3]; · iexact H3
    iexact T4
  iintro ⟨HS, C2⟩
  iapply (waitAx_spec X V κ ν c 2 (a := 3) (b := 4) (n := 89) (m := 88) (by decide +kernel) ⟨rfl, rfl⟩) $$ [HS A2 C2]
  · isplitr; · iexact HC
    isplitl [HS]; · iexact HS
    isplitl [A2] <;> iassumption
  iintro ⟨HS, A2, H3, H4⟩
  iapply (ldAxAt_spec c 4 _ _) $$ H4; iintro H4
  iapply (ldAxAt_spec c 2 _ _) $$ H2; iintro H2
  iapply Hk
  isplitl [HS]; · iexact HS
  isplitl [A0 A1 A2]
  · isplitl [A0]; · iexact A0
    isplitl [A1] <;> iassumption
  isplitl [H0]; · iexact H0
  isplitl [H1]; · iapply (axAt_any c 1 _); iexact H1
  isplitl [H2]; · iapply (axAt_any c 2 _); iexact H2
  isplitl [H3]; · iapply (axAt_any c 3 _); iexact H3
  iapply (axAt_any c 4 _); iexact H4

end Cert.Proof

end
-- ==== Proof.Tiles.lean ====
/-
  The result, tile by tile.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))
variable (κ : Dev nD × CK → ℕ) (ν : Key → ℕ)

/-! ### Reading the sums back -/

theorem yn_at : ∀ (t : Fin 8) (s : Fin 2), ∃ i : Fin 16, tileOf (rgI i.val) (rdI i.val) = t ∧ lnI i.val = s
    ∧ rgI i.val = ringOf t ∧ rdI i.val = roundOf t := by decide +kernel

/-- A tile of the sums from its two lanes. -/
theorem y_tile (f : (yM.view).ty.Contents (Elt F)) (t : Fin 8) (a b : Vec F S1024x512 .bf16)
    (ha : (yM.access (ocolRect t 0)).read (Elt F) f = a) (hb : (yM.access (ocolRect t 1)).read (Elt F) f = b) :
    yM.view.readAt (Elt F) (tileRect t).toLoadRect f = join a b := by
  subst ha hb
  funext i
  have h1 : (i 1).val < 1024 := (i 1).isLt
  unfold join
  show f _ = _
  split
  · show f _ = f _
    congr 1
    funext x
    refine Fin.ext ?_
    match x with
    | 0 => rfl
    | 1 =>
      show t.val * 1024 + 1 * (i 1).val = t.val * 1024 + 0 * 512 + 1 * (i 1).val
      omega
  · rename_i h
    show f _ = f _
    congr 1
    funext x
    refine Fin.ext ?_
    match x with
    | 0 => rfl
    | 1 =>
      show t.val * 1024 + 1 * (i 1).val = t.val * 1024 + 1 * 512 + 1 * ((i 1).val - 512)
      omega

/-- Loading a tile of the sums. -/
theorem yTile_spec (c : Dev nD) (t : Fin 8) (K : Vec F S1024x1024 .bf16 → Pr F) (Q : PUnit → sProp 𝕄) :
    yAt X V c 16 ⊢ iprop((yAt X V c 16 -∗ Wp c (K (join (yk X V c t 0) (yk X V c t 1))) Q)
      -∗ Wp c (.op (.load yM (tileRect t).toLoadRect (View.loadsAt_vmem h_S1024x1024)) K) Q) := by
  unfold yAt
  iintro ⟨%f, %hf, Hy⟩ Hk
  iapply (wp_load 𝒱₀ (c : Thread nD τ) none Set.univ (m := yM) (Finset.subset_univ _)) $$ Hy; iintro Hy
  have hl : ∀ s : Fin 2, (yM.access (ocolRect t s)).read (Elt F) f = yk X V c t s := fun s => by
    obtain ⟨i, h1, h2, h3, h4⟩ := yn_at t s
    have := hf i.val i.isLt
    rw [h1, h2, h3, h4] at this
    exact this
  rw [y_tile f t _ _ (hl 0) (hl 1)]
  iapply Hk
  iexists f
  isplitr; · ipureintro; exact hf
  iexact Hy

/-! ### The copies -/

/-- What lane `s` of tile `t` of the result holds in the end. -/
def outV (c : Dev nD) (t : Fin 8) (s : Fin 2) : FVec F S1024x512 .bf16 := ofSlot (toSlot (laneOf s (qD X V c t)))

/-- What a copied lane reads as. -/
theorem put_read (t : Fin 8) (b s : Fin 2) (f : (laneM false (up4 b) s).view.ty.Contents (Elt F)) (g : (ocolM t s).view.ty.Contents (Elt F))
    (v : FVec F S1x1x1024x512 .bf16) (hf : ((slM false).access (laneRect (up4 b) s)).read (Elt F) f = v) :
    (ocolM t s).view.read (Elt F) ((ocolM t s).view.write (Elt F) g ((laneM false (up4 b) s).view.read (Elt F) f) Finset.univ) = ofSlot v := by
  rw [View.read_write_univ, ← hf]
  rfl

/-- A copy of a lane, at its cell. -/
theorem put_raw (c : Dev nD) (t : Fin 8) (b s : Fin 2) (r : Fin 4) (ht : putTile b r.val = t)
    (f : (laneM false (up4 b) s).view.ty.Contents (Elt F)) (g : (ocolM t s).view.ty.Contents (Elt F))
    (hf : ((slM false).access (laneRect (up4 b) s)).read (Elt F) f = toSlot (laneOf s (qD X V c t))) (K : Pr F) (Q : PUnit → sProp 𝕄) :
    iprop(cellInv ER (Rd X V) (κ (c, .out b s)) (cell c (.out b s))
        ∗ ((laneM false (up4 b) s).view.loc (c : Thread nD τ) ↦[(laneM false (up4 b) s).view.set]{fullShare} f)
        ∗ ((ocolM t s).view.loc (c : Thread nD τ) ↦[(ocolM t s).view.set]{fullShare} g)
        ∗ dutyTok ER (cell c (.out b s)) r.val 0 ∗ reached ER (cell c (.out b s)) r.val)
      ⊢ iprop((cred (tallyAt (cell c (.out b s)) 0 NO) -∗ Wp c K Q) -∗ Wp c (put t b s K) Q) := by
  have hd : 0 ∈ (Rd X V).duties (cell c (.out b s)) r.val := by
    rw [Rd_duties]; dsimp only [dutiesK]; rw [if_pos r.isLt]; exact Finset.mem_singleton_self _
  have hpay : iprop(((ocolM t s).view.loc (c : Thread nD τ) ↦[(ocolM t s).view.set]{fullShare}
          ((ocolM t s).view.write (Elt F) g ((laneM false (up4 b) s).view.read (Elt F) f) Finset.univ))
        ∗ ((laneM false (up4 b) s).view.loc (c : Thread nD τ) ↦[(laneM false (up4 b) s).view.set]{fullShare} f) : sProp 𝕄)
      ⊢ (Rd X V).payload (cell c (.out b s)) r.val 0 := by
    rw [Rd_payload]; dsimp only [payK]; rw [ht]; unfold ocAt laneAny slot
    iintro ⟨H1, H2⟩
    isplitl [H1]
    · iexists _
      isplitr; swap; · iexact H1
      ipureintro
      exact put_read t b s f g _ hf
    · iexists f; iexact H2
  unfold put
  exact Rounds.wp_copy_pointsTo (defs := defs₀ (F := F)) (k := fun _ => K) (Q := Q) (Es := Set.univ) 𝒱₀ ER (Rd X V) (c : Thread nD τ) none
    (κ := κ (c, .out b s)) (src := laneM false (up4 b) s) (dst := ocolM t s) (sem := SemLoc.dma (oS b s))
    (r := r.val) (d := 0) (fs := f) (fd := g) hd 0 NO (ocol_credit t s) (Rd_amount X V c (.out b s) r.val 0) hpay

/-- Where a device stands at a copy's cell. -/
def oPos (c : Dev nD) (b s : Fin 2) (r : ℕ) : sProp 𝕄 := iprop(atPos ER (cell c (.out b s)) r ∅ 0 ∗ reached ER (cell c (.out b s)) r)

/-- Copying a lane. -/
theorem put_spec (c : Dev nD) (t : Fin 8) (b s : Fin 2) (r : Fin 4) (ht : putTile b r.val = t) (K : Pr F) (Q : PUnit → sProp 𝕄) :
    iprop(Ctx X V κ ν ∗ oPos c b s r.val ∗ laneAt c false (up4 b) s (toSlot (laneOf s (qD X V c t))) ∗ ocAny c t s
        ∗ dutyTok ER (cell c (.out b s)) r.val 0)
      ⊢ iprop(((oPos c b s r.val ∗ cred (tallyAt (cell c (.out b s)) 0 NO)) -∗ Wp c K Q) -∗ Wp c (put t b s K) Q) := by
  unfold oPos laneAt ocAny slot
  iintro ⟨#HC, ⟨Hat, #Hr⟩, ⟨%f, %hf, Hl⟩, ⟨%g, Hg⟩, Hd⟩ Hk
  ihave #HI := (Ctx_inv X V κ ν c (.out b s)) $$ HC
  iapply (put_raw X V κ c t b s r ht f g hf) $$ [Hl Hg Hd]
  · isplitr; · iexact HI
    isplitl [Hl]; · iexact Hl
    isplitl [Hg]; · iexact Hg
    isplitl [Hd]; · iexact Hd
    iexact Hr
  iintro Hcr
  iapply Hk
  isplitr [Hcr]; swap; · iexact Hcr
  isplitl [Hat]; · iexact Hat
  iexact Hr

/-- Waiting for a copy. -/
theorem waitPut_spec (c : Dev nD) (t : Fin 8) (b s : Fin 2) (r : Fin 4) (ht : putTile b r.val = t) {n m : ℕ} (K : Pr F) (Q : PUnit → sProp 𝕄) :
    iprop(Ctx X V κ ν ∗ St c n m ∗ oPos c b s r.val ∗ cred (tallyAt (cell c (.out b s)) 0 NO))
      ⊢ iprop(((St c n m ∗ oPos c b s (r.val + 1) ∗ ocAt c t s (outV X V c t s) ∗ laneAny c false (up4 b) s) -∗ Wp c K Q)
        -∗ Wp c (waitPut t b s K) Q) := by
  unfold oPos waitPut
  iintro ⟨#HC, HS, ⟨Hat, -⟩, Hcr⟩ Hk
  ihave HS' := (St_todo c) $$ HS
  icases HS' with ⟨Ht, HS⟩
  iapply (wait_todo X V κ ν c (.out b s) (r := r.val) (i := 0) (n := n) (if_pos r.isLt) (by omega) (by omega)
    (fun K => (wpE_waitDma2_eq 𝒱₀ (c : Thread nD τ) none Set.univ K).trans (by rw [ocol_credit]; rfl))) $$ [Ht Hcr Hat]
  · isplitr; · iexact HC
    isplitl [Ht]; · iexact Ht
    isplitl [Hcr]; · iexact Hcr
    iexact Hat
  iintro ⟨Ht, Hat, Hr, Hp⟩
  have hpay : payK X V c r.val 0 (.out b s) ⊢ iprop(ocAt c t s (outV X V c t s) ∗ laneAny c false (up4 b) s) := by
    dsimp only [payK]; rw [ht]; exact BI.Entails.refl _
  ihave Hp := hpay $$ Hp
  iapply Hk
  isplitl [HS Ht]; · iapply HS; iexact Ht
  isplitl [Hat Hr]; · isplitl [Hat] <;> iassumption
  iexact Hp

/-! ### Tiles -/

/-- A staging slot at rest. -/
def rest (c : Dev nD) (b : Fin 2) (r : ℕ) : sProp 𝕄 :=
  iprop((oPos (F := F) c b 0 r ∗ oPos c b 1 r) ∗ laneAny c false (up4 b) 0 ∗ laneAny c false (up4 b) 1)

/-- A staging slot being copied. -/
def busy (c : Dev nD) (b : Fin 2) (r : ℕ) : sProp 𝕄 :=
  iprop((oPos (F := F) c b 0 r ∗ cred (tallyAt (cell c (.out b 0)) 0 NO)) ∗ oPos c b 1 r ∗ cred (tallyAt (cell c (.out b 1)) 0 NO))

/-- What a device needs to write a tile of the result. -/
def blank (c : Dev nD) (t : Fin 8) (b : Fin 2) (r : ℕ) : sProp 𝕄 :=
  iprop((ocAny (F := F) c t 0 ∗ dutyTok ER (cell c (.out b 0)) r 0) ∗ ocAny c t 1 ∗ dutyTok ER (cell c (.out b 1)) r 0)

/-- A tile of the result. -/
def done (c : Dev nD) (t : Fin 8) : sProp 𝕄 := iprop(ocAt c t 0 (outV X V c t 0) ∗ ocAt c t 1 (outV X V c t 1))

theorem tile_spec (c : Dev nD) (t : Fin 8) (b : Fin 2) (r : Fin 4) (ht : putTile b r.val = t) (K : Pr F) (Q : PUnit → sProp 𝕄) :
    iprop(Ctx X V κ ν ∗ yAt X V c 16 ∗ rest c b r.val ∗ blank c t b r.val)
      ⊢ iprop(((yAt X V c 16 ∗ busy c b r.val) -∗ Wp c K Q) -∗ Wp c (tile (gD X V c) t b K) Q) := by
  unfold tile rest blank busy
  iintro ⟨#HC, Hy, ⟨⟨O0, O1⟩, L0, L1⟩, ⟨C0, D0⟩, C1, D1⟩ Hk
  iapply (yTile_spec X V c t) $$ Hy; iintro Hy
  iapply (stLanes_spec c false (up4 b)) $$ [L0 L1]
  · isplitl [L0] <;> iassumption
  iintro ⟨L0, L1⟩
  iapply (put_spec X V κ ν c t b 0 r ht) $$ [O0 L0 C0 D0]
  · isplitr; · iexact HC
    isplitl [O0]; · iexact O0
    isplitl [L0]; · iexact L0
    isplitl [C0] <;> iassumption
  iintro O0
  iapply (put_spec X V κ ν c t b 1 r ht) $$ [O1 L1 C1 D1]
  · isplitr; · iexact HC
    isplitl [O1]; · iexact O1
    isplitl [L1]; · iexact L1
    isplitl [C1] <;> iassumption
  iintro O1
  iapply Hk
  isplitl [Hy]; · iexact Hy
  isplitl [O0] <;> iassumption

theorem waitTile_spec (c : Dev nD) (t : Fin 8) (b : Fin 2) (r : Fin 4) (ht : putTile b r.val = t) {n m : ℕ} (K : Pr F) (Q : PUnit → sProp 𝕄) :
    iprop(Ctx X V κ ν ∗ St c n m ∗ busy c b r.val)
      ⊢ iprop(((St c n m ∗ rest c b (r.val + 1) ∗ done X V c t) -∗ Wp c K Q) -∗ Wp c (waitTile t b K) Q) := by
  unfold waitTile rest busy done
  iintro ⟨#HC, HS, B0, B1⟩ Hk
  iapply (waitPut_spec X V κ ν c t b 0 r ht) $$ [HS B0]
  · isplitr; · iexact HC
    isplitl [HS] <;> iassumption
  iintro ⟨HS, O0, C0, L0⟩
  iapply (waitPut_spec X V κ ν c t b 1 r ht) $$ [HS B1]
  · isplitr; · iexact HC
    isplitl [HS] <;> iassumption
  iintro ⟨HS, O1, C1, L1⟩
  iapply Hk
  isplitl [HS]; · iexact HS
  isplitl [O0 O1 L0 L1]
  · isplitl [O0 O1]; · isplitl [O0] <;> iassumption
    isplitl [L0] <;> iassumption
  isplitl [C0] <;> iassumption

/-- The slot and the round of a tile's copies. -/
def bOf (t : Fin 8) : Fin 2 := Fin.ofNat 2 t.val
def rOf (t : Fin 8) : Fin 4 := Fin.ofNat 4 (t.val / 2)

/-- An assertion for each of the eight tiles. -/
theorem over8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The tiles. -/
theorem tiles_spec (c : Dev nD) {n m : ℕ} (K : Pr F) (Q : PUnit → sProp 𝕄) :
    iprop(Ctx X V κ ν ∗ yAt X V c 16 ∗ St c n m ∗ (rest c 0 0 ∗ rest c 1 0)
        ∗ bigSep (Finset.univ : Finset (Fin 8)) fun t => blank c t (bOf t) (rOf t).val)
      ⊢ iprop(((yAt X V c 16 ∗ St c n m ∗ (rest c 0 4 ∗ rest c 1 4) ∗ bigSep (Finset.univ : Finset (Fin 8)) fun t => done X V c t) -∗ Wp c K Q)
        -∗ Wp c (tiles (gD X V c) K) Q) := by
  rw [over8, over8]
  unfold tiles
  iintro ⟨#HC, Hy, HS, ⟨R0, R1⟩, B0, B1, B2, B3, B4, B5, B6, B7⟩ Hk
  iapply (tile_spec X V κ ν c 0 0 0 rfl) $$ [Hy R0 B0]
  · isplitr; · iexact HC
    isplitl [Hy]; · iexact Hy
    isplitl [R0]; · iexact R0
    iexact B0
  iintro ⟨Hy, R0⟩
  iapply (tile_spec X V κ ν c 1 1 0 rfl) $$ [Hy R1 B1]
  · isplitr; · iexact HC
    isplitl [Hy]; · iexact Hy
    isplitl [R1]; · iexact R1
    iexact B1
  iintro ⟨Hy, R1⟩
  iapply (waitTile_spec X V κ ν c 0 0 0 rfl) $$ [HS R0]
  · isplitr; · iexact HC
    isplitl [HS] <;> iassumption
  iintro ⟨HS, R0, D0⟩
  iapply (tile_spec X V κ ν c 2 0 1 rfl) $$ [Hy R0 B2]
  · isplitr; · iexact HC
    isplitl [Hy]; · iexact Hy
    isplitl [R0]; · iexact R0
    iexact B2
  iintro ⟨Hy, R0⟩
  iapply (waitTile_spec X V κ ν c 1 1 0 rfl) $$ [HS R1]
  · isplitr; · iexact HC
    isplitl [HS] <;> iassumption
  iintro ⟨HS, R1, D1⟩
  iapply (tile_spec X V κ ν c 3 1 1 rfl) $$ [Hy R1 B3]
  · isplitr; · iexact HC
    isplitl [Hy]; · iexact Hy
    isplitl [R1]; · iexact R1
    iexact B3
  iintro ⟨Hy, R1⟩
  iapply (waitTile_spec X V κ ν c 2 0 1 rfl) $$ [HS R0]
  · isplitr; · iexact HC
    isplitl [HS] <;> iassumption
  iintro ⟨HS, R0, D2⟩
  iapply (tile_spec X V κ ν c 4 0 2 rfl) $$ [Hy R0 B4]
  · isplitr; · iexact HC
    isplitl [Hy]; · iexact Hy
    isplitl [R0]; · iexact R0
    iexact B4
  iintro ⟨Hy, R0⟩
  iapply (waitTile_spec X V κ ν c 3 1 1 rfl) $$ [HS R1]
  · isplitr; · iexact HC
    isplitl [HS] <;> iassumption
  iintro ⟨HS, R1, D3⟩
  iapply (tile_spec X V κ ν c 5 1 2 rfl) $$ [Hy R1 B5]
  · isplitr; · iexact HC
    isplitl [Hy]; · iexact Hy
    isplitl [R1]; · iexact R1
    iexact B5
  iintro ⟨Hy, R1⟩
  iapply (waitTile_spec X V κ ν c 4 0 2 rfl) $$ [HS R0]
  · isplitr; · iexact HC
    isplitl [HS] <;> iassumption
  iintro ⟨HS, R0, D4⟩
  iapply (tile_spec X V κ ν c 6 0 3 rfl) $$ [Hy R0 B6]
  · isplitr; · iexact HC
    isplitl [Hy]; · iexact Hy
    isplitl [R0]; · iexact R0
    iexact B6
  iintro ⟨Hy, R0⟩
  iapply (waitTile_spec X V κ ν c 5 1 2 rfl) $$ [HS R1]
  · isplitr; · iexact HC
    isplitl [HS] <;> iassumption
  iintro ⟨HS, R1, D5⟩
  iapply (tile_spec X V κ ν c 7 1 3 rfl) $$ [Hy R1 B7]
  · isplitr; · iexact HC
    isplitl [Hy]; · iexact Hy
    isplitl [R1]; · iexact R1
    iexact B7
  iintro ⟨Hy, R1⟩
  iapply (waitTile_spec X V κ ν c 6 0 3 rfl) $$ [HS R0]
  · isplitr; · iexact HC
    isplitl [HS] <;> iassumption
  iintro ⟨HS, R0, D6⟩
  iapply (waitTile_spec X V κ ν c 7 1 3 rfl) $$ [HS R1]
  · isplitr; · iexact HC
    isplitl [HS] <;> iassumption
  iintro ⟨HS, R1, D7⟩
  iapply Hk
  isplitl [Hy]; · iexact Hy
  isplitl [HS]; · iexact HS
  isplitl [R0 R1]
  · isplitl [R0]; · iexact R0
    iexact R1
  isplitl [D0]; · iexact D0
  isplitl [D1]; · iexact D1
  isplitl [D2]; · iexact D2
  isplitl [D3]; · iexact D3
  isplitl [D4]; · iexact D4
  isplitl [D5]; · iexact D5
  isplitl [D6]; · iexact D6
  iexact D7

end Cert.Proof

end
-- ==== Proof.Device.lean ====
/-
  What a device runs, from the barrier to the result.
-/
module

public import proofs.«01_k».proof.Proof.Tiles

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))
variable (κ : Dev nD × CK → ℕ) (ν : Key → ℕ)

/-! ### Four lanes -/

theorem four_sep (f g : Bool → Fin 2 → sProp 𝕄) : (four fun ρ s => iprop(f ρ s ∗ g ρ s)) ⊢ iprop(four f ∗ four g) := by
  unfold four
  iintro ⟨⟨A1, B1⟩, ⟨A2, B2⟩, ⟨A3, B3⟩, A4, B4⟩
  isplitl [A1 A2 A3 A4]
  · isplitl [A1]; · iexact A1
    isplitl [A2]; · iexact A2
    isplitl [A3] <;> iassumption
  · isplitl [B1]; · iexact B1
    isplitl [B2]; · iexact B2
    isplitl [B3] <;> iassumption

theorem four_pair (f g : Bool → Fin 2 → sProp 𝕄) : iprop(four f ∗ four g) ⊢ four fun ρ s => iprop(f ρ s ∗ g ρ s) := by
  unfold four
  iintro ⟨⟨A1, A2, A3, A4⟩, B1, B2, B3, B4⟩
  isplitl [A1 B1]; · isplitl [A1] <;> iassumption
  isplitl [A2 B2]; · isplitl [A2] <;> iassumption
  isplitl [A3 B3]; · isplitl [A3] <;> iassumption
  isplitl [A4] <;> iassumption

theorem four_all (f : Bool → Fin 2 → sProp 𝕄) : four f ⊢ iprop(f false 0 ∗ f true 0 ∗ f false 1 ∗ f true 1) := BI.Entails.refl _

theorem four_mono {f g : Bool → Fin 2 → sProp 𝕄} (h : ∀ ρ s, f ρ s ⊢ g ρ s) : four f ⊢ four g := by
  unfold four
  exact BI.sep_mono (h _ _) (BI.sep_mono (h _ _) (BI.sep_mono (h _ _) (h _ _)))

/-! ### A round -/

/-- The lanes after a round's hops, taken apart. -/
theorem lanes_apart (c : Dev nD) (k : Fin 4) :
    (four fun ρ s => lane X V c ρ s k 3) ⊢ iprop((four fun ρ s => laneAny c ρ 0 s) ∗ (four fun ρ s => back c ρ 0 s k) ∗ (four fun ρ s => back c ρ 1 s k)
      ∗ (four fun ρ s => pos c ρ 2 s (k.val + 1) (k.val + 1)) ∗ four fun ρ s => laneAt c ρ 3 s (income X V ρ k s 2 c)) := by
  unfold lane
  exact (four_sep _ _).trans (sep_mono_right ((four_sep _ _).trans (sep_mono_right ((four_sep _ _).trans (sep_mono_right (four_sep _ _))))))

/-- The lanes at a round's start, put together. -/
theorem lanes_start (c : Dev nD) (k : Fin 4) :
    iprop((four fun ρ s => fly c ρ 0 s k.val) ∗ (four fun ρ s => pos c ρ 1 s k.val (k.val + 1)) ∗ (four fun ρ s => pos c ρ 2 s k.val (k.val + 1)))
      ⊢ four fun ρ s => lane X V c ρ s k 0 := by
  unfold lane
  exact (sep_mono_right (four_pair _ _)).trans (four_pair _ _)

theorem back_next (c : Dev nD) (ρ : Bool) (h : Fin 3) (s : Fin 2) {k k' : Fin 4} (hk : k'.val = k.val + 1) :
    back (F := F) c ρ h s k ⊢ pos c ρ h s k'.val (k'.val + 1) := by
  unfold back; rw [if_pos (by omega), hk]

/-- A round that another follows. -/
theorem round_spec (c : Dev nD) {k k' : Fin 4} (hk : k'.val = k.val + 1) (cw : Bool) (hcw : cw = decide (0 < k.val)) {n m n1 m1 n2 m2 n3 : ℕ}
    (h1 : HopsOk k true cw n m) (e1 : n + 1 + 1 + 1 + 1 + 1 + 1 + 1 + 1 + 1 + 1 + 1 + 1 + 1 + 1 + 1 + 1 = n1)
    (e1' : m + 1 + cw.toNat + 1 + cw.toNat + 1 + cw.toNat + 1 + cw.toNat + 1 + cw.toNat + 1 + cw.toNat + 1 + cw.toNat + 1 + cw.toNat + 1 + 1 + 1 + 1 = m1)
    (h2 : KickOk k' true n1 m1) (e2 : n1 + 1 + 1 + 1 + 1 = n2) (e2' : m1 + 1 + 1 + 1 + 1 = m2)
    (h3 : FinsOk k true n2) (e3 : n2 + 1 + 1 + 1 + 1 = n3)
    (K : FVec F S1024x1024 .bf16 → FVec F S1024x1024 .bf16 → F .f32 → Pr F) (Q : PUnit → sProp 𝕄) :
    iprop(Ctx X V κ ν ∗ Open c ∗ xw X V c ∗ St c n m ∗ yAt X V c (4 * k.val) ∗ four fun ρ s => lane X V c ρ s k 0)
      ⊢ iprop(((xw X V c ∗ St c n3 m2 ∗ yAt X V c (4 * k.val + 4) ∗ four fun ρ s => lane X V c ρ s k' 0)
          -∗ Wp c (K (P X V c false k' 1) (P X V c true k' 1) (amN X V c (4 * k.val + 4))) Q)
        -∗ Wp c (round (nx c) (xoT c) k k' cw (P X V c false k 1) (P X V c true k 1) (amN X V c (4 * k.val)) K) Q) := by
  have hk3 : true = decide (k.val < 3) := (decide_eq_true (by omega)).symm
  have hk0 : true = decide (0 < k'.val) := (decide_eq_true (by omega)).symm
  subst e1 e1' e2 e2' e3
  unfold round
  iintro ⟨#HC, #HO, Hx, HS, Hy, HL⟩ Hk
  iapply (hops_spec X V κ ν c k true cw hk3 hcw h1) $$ [Hx HS HL]
  · isplitr; · iexact HC
    isplitr; · iexact HO
    isplitl [Hx]; · iexact Hx
    isplitl [HS] <;> iassumption
  iintro ⟨Hx, HS, HL⟩
  ihave HL := (lanes_apart X V c k) $$ HL
  icases HL with ⟨L0, B0, B1, P2, L3⟩
  iapply (fill_spec X V c k') $$ [Hx L0]
  · isplitl [Hx] <;> iassumption
  iintro ⟨Hx, L0⟩
  ihave B0 := (four_mono fun ρ s => back_next (F := F) c ρ 0 s hk) $$ B0
  ihave B1 := (four_mono fun ρ s => back_next (F := F) c ρ 1 s hk) $$ B1
  iapply (kick_spec X V κ ν c k' true hk0 h2) $$ [Hx HS B0 L0]
  · isplitr; · iexact HC
    isplitr; · iexact HO
    isplitl [Hx]; · iexact Hx
    isplitl [HS]; · iexact HS
    isplitl [B0] <;> iassumption
  iintro ⟨Hx, HS, F0⟩
  iapply (fins_spec X V κ ν c k true hk3 h3) $$ [HS Hy P2 L3]
  · isplitr; · iexact HC
    isplitl [HS]; · iexact HS
    isplitl [Hy]; · iexact Hy
    isplitl [P2] <;> iassumption
  iintro ⟨HS, Hy, B2⟩
  ihave B2 := (four_mono fun ρ s => back_next (F := F) c ρ 2 s hk) $$ B2
  iapply Hk
  isplitl [Hx]; · iexact Hx
  isplitl [HS]; · iexact HS
  isplitl [Hy]; · iexact Hy
  iapply (lanes_start X V c k')
  isplitl [F0]; · iexact F0
  isplitl [B1] <;> iassumption

/-! ### The start -/

/-- A lane's landing slots and cells before anything has moved. -/
def fresh (c : Dev nD) (ρ : Bool) (s : Fin 2) : sProp 𝕄 :=
  iprop((pos (F := F) c ρ 0 s 0 0 ∗ laneAny c ρ 1 s) ∗ (pos c ρ 1 s 0 0 ∗ laneAny c ρ 2 s) ∗ pos c ρ 2 s 0 0 ∗ laneAny c ρ 3 s)

/-- A lane's cells once its landing slots are given up. -/
def begun (c : Dev nD) (ρ : Bool) (s : Fin 2) : sProp 𝕄 := iprop(pos (F := F) c ρ 0 s 0 1 ∗ pos c ρ 1 s 0 1 ∗ pos c ρ 2 s 0 1)

/-- What is then known of a lane. -/
def cleared (c : Dev nD) (ρ : Bool) (s : Fin 2) : sProp 𝕄 := iprop(clear (F := F) c ρ 0 s 0 ∗ clear c ρ 1 s 0 ∗ clear c ρ 2 s 0)
instance cleared_persistent (c : Dev nD) (ρ : Bool) (s : Fin 2) : BI.Persistent (cleared (F := F) c ρ s) := by unfold cleared; infer_instance

/-- Giving up a lane's landing slots. -/
theorem begin_lane (c : Dev nD) (ρ : Bool) (s : Fin 2) :
    iprop(Ctx X V κ ν ∗ fresh c ρ s) ⊢ (|={Set.univ}=> (begun c ρ s ∗ cleared c ρ s) : sProp 𝕄) := by
  unfold fresh begun cleared clear
  iintro ⟨#HC, ⟨P0, L0⟩, ⟨P1, L1⟩, P2, L2⟩
  imod (deposit X V κ ν c ρ 0 s 0 0) $$ [P0 L0] with ⟨P0, #R0, #T0⟩
  · isplitr; · iexact HC
    isplitl [P0]; · iexact P0
    iexact L0
  imod (deposit X V κ ν c ρ 1 s 0 0) $$ [P1 L1] with ⟨P1, #R1, #T1⟩
  · isplitr; · iexact HC
    isplitl [P1]; · iexact P1
    iexact L1
  imod (deposit X V κ ν c ρ 2 s 0 0) $$ [P2 L2] with ⟨P2, #R2, #T2⟩
  · isplitr; · iexact HC
    isplitl [P2]; · iexact P2
    iexact L2
  imodintro
  isplitl [P0 P1 P2]
  · isplitl [P0]; · iexact P0
    isplitl [P1] <;> iassumption
  isplitr
  · isplitr; · iexact R0
    iexact T0
  isplitr
  · isplitr; · iexact R1
    iexact T1
  isplitr; · iexact R2
  iexact T2

theorem openSlots_of (c : Dev nD) (ρ : Bool) : iprop(cleared (F := F) c ρ 0 ∗ cleared c ρ 1) ⊢ openSlots c ρ := by
  unfold openSlots
  have e : (bigSep (Finset.univ : Finset (Fin 3 × Fin 2)) fun x => clear (F := F) c ρ x.1 x.2 0)
      = iprop(clear c ρ 0 0 0 ∗ clear c ρ 1 0 0 ∗ clear c ρ 2 0 0 ∗ clear c ρ 0 1 0 ∗ clear c ρ 1 1 0 ∗ clear c ρ 2 1 0) :=
    bigSep_univ_eq_bigSepL [((0 : Fin 3), (0 : Fin 2)), (1, 0), (2, 0), (0, 1), (1, 1), (2, 1)] (by decide) (by decide) _
  rw [e]
  unfold cleared
  iintro ⟨⟨A0, A1, A2⟩, B0, B1, B2⟩
  isplitl [A0]; · iexact A0
  isplitl [A1]; · iexact A1
  isplitl [A2]; · iexact A2
  isplitl [B0]; · iexact B0
  isplitl [B1]; · iexact B1
  iexact B2

/-! ### The whole text -/

/-- A lane's landing slots and cells when everything has moved. -/
def spent (c : Dev nD) (ρ : Bool) (s : Fin 2) : sProp 𝕄 := iprop(pos (F := F) c ρ 0 s 4 4 ∗ pos c ρ 1 s 4 4 ∗ pos c ρ 2 s 4 4)

/-- The sums' buffer at any contents. -/
def yAny (c : Dev nD) : sProp 𝕄 := iprop(∃ f, ((c : Thread nD τ).loc cc0_scratch2 ↦{fullShare} f))

/-- The exchange's buffer at any contents. -/
def axBuf (c : Dev nD) : sProp 𝕄 := iprop(axAny (F := F) c 0 ∗ axAny c 1 ∗ axAny c 2 ∗ axAny c 3 ∗ axAny c 4)

/-- A ring's slots at any contents. -/
def slBuf (c : Dev nD) (ρ : Bool) : sProp 𝕄 :=
  iprop((laneAny (F := F) c ρ 0 0 ∗ laneAny c ρ 1 0 ∗ laneAny c ρ 2 0 ∗ laneAny c ρ 3 0)
    ∗ laneAny c ρ 0 1 ∗ laneAny c ρ 1 1 ∗ laneAny c ρ 2 1 ∗ laneAny c ρ 3 1)

/-- The cells of the copies to the result. -/
def oCells (c : Dev nD) (r : ℕ) : sProp 𝕄 := iprop((oPos (F := F) c 0 0 r ∗ oPos c 0 1 r) ∗ oPos c 1 0 r ∗ oPos c 1 1 r)

/-- A lane's cells before anything has moved. -/
def unmoved (c : Dev nD) (ρ : Bool) (s : Fin 2) : sProp 𝕄 := iprop(pos (F := F) c ρ 0 s 0 0 ∗ pos c ρ 1 s 0 0 ∗ pos c ρ 2 s 0 0)

/-- What a device has at its start. -/
def Pre (c : Dev nD) : sProp 𝕄 :=
  iprop(St c 0 0 ∗ (four fun ρ s => unmoved c ρ s) ∗ (slBuf c false ∗ slBuf c true) ∗ axAll c 0 ∗ axBuf c ∗ atPos ER (cell c .bar) 0 ∅ 0 ∗ yAny c
    ∗ oCells c 0 ∗ bigSep (Finset.univ : Finset (Fin 8)) fun t => blank (F := F) c t (bOf t) (rOf t).val)

/-- What it has at its end. -/
def Post (c : Dev nD) : sProp 𝕄 :=
  iprop(St c 89 89 ∗ (four fun ρ s => spent c ρ s) ∗ (slBuf c false ∗ slBuf c true) ∗ axAll c 1 ∗ axBuf c ∗ atPos ER (cell c .bar) 1 ∅ 0 ∗ yAny c
    ∗ oCells c 4 ∗ bigSep (Finset.univ : Finset (Fin 8)) fun t => done X V c t)

/-- The slots and the cells, lane by lane. -/
theorem lanes_fresh (c : Dev nD) : iprop((four fun ρ s => unmoved (F := F) c ρ s) ∗ slBuf c false ∗ slBuf c true)
    ⊢ iprop((four fun ρ s => laneAny c ρ 0 s) ∗ four fun ρ s => fresh c ρ s) := by
  unfold unmoved slBuf fresh four
  iintro ⟨⟨⟨A0, A1, A2⟩, ⟨B0, B1, B2⟩, ⟨C0, C1, C2⟩, D0, D1, D2⟩, ⟨⟨a0, a1, a2, a3⟩, c0, c1, c2, c3⟩, ⟨b0, b1, b2, b3⟩, d0, d1, d2, d3⟩
  isplitl [a0 b0 c0 d0]
  · isplitl [a0]; · iexact a0
    isplitl [b0]; · iexact b0
    isplitl [c0] <;> iassumption
  isplitl [A0 A1 A2 a1 a2 a3]
  · isplitl [A0 a1]; · isplitl [A0] <;> iassumption
    isplitl [A1 a2]; · isplitl [A1] <;> iassumption
    isplitl [A2] <;> iassumption
  isplitl [B0 B1 B2 b1 b2 b3]
  · isplitl [B0 b1]; · isplitl [B0] <;> iassumption
    isplitl [B1 b2]; · isplitl [B1] <;> iassumption
    isplitl [B2] <;> iassumption
  isplitl [C0 C1 C2 c1 c2 c3]
  · isplitl [C0 c1]; · isplitl [C0] <;> iassumption
    isplitl [C1 c2]; · isplitl [C1] <;> iassumption
    isplitl [C2] <;> iassumption
  isplitl [D0 d1]; · isplitl [D0] <;> iassumption
  isplitl [D1 d2]; · isplitl [D1] <;> iassumption
  isplitl [D2] <;> iassumption

theorem back_last (c : Dev nD) (ρ : Bool) (h : Fin 3) (s : Fin 2) : back (F := F) c ρ h s 3 ⊢ iprop(pos c ρ h s 4 4 ∗ laneAny c ρ h.succ s) := by
  unfold back; rw [if_neg (by decide)]; exact BI.Entails.refl _

/-- The cells at the end, lane by lane, and the slots apart. -/
theorem lanes_spent (c : Dev nD) :
    iprop((four fun ρ s => back (F := F) c ρ 0 s 3) ∗ (four fun ρ s => back c ρ 1 s 3) ∗ four fun ρ s => back c ρ 2 s 3)
    ⊢ iprop((four fun ρ s => spent c ρ s) ∗ (four fun ρ s => laneAny c ρ 1 s) ∗ (four fun ρ s => laneAny c ρ 2 s) ∗ four fun ρ s => laneAny c ρ 3 s) := by
  iintro ⟨H0, H1, H2⟩
  ihave H0 := (four_mono fun ρ s => back_last (F := F) c ρ 0 s) $$ H0
  ihave H1 := (four_mono fun ρ s => back_last (F := F) c ρ 1 s) $$ H1
  ihave H2 := (four_mono fun ρ s => back_last (F := F) c ρ 2 s) $$ H2
  ihave H0 := (four_sep _ _) $$ H0
  ihave H1 := (four_sep _ _) $$ H1
  ihave H2 := (four_sep _ _) $$ H2
  icases H0 with ⟨P0, L0⟩
  icases H1 with ⟨P1, L1⟩
  icases H2 with ⟨P2, L2⟩
  isplitl [P0 P1 P2]
  · unfold spent
    iapply (four_pair (F := F) (fun ρ s => pos c ρ 0 s 4 4) (fun ρ s => iprop(pos c ρ 1 s 4 4 ∗ pos c ρ 2 s 4 4)))
    isplitl [P0]; · iexact P0
    iapply (four_pair (F := F) (fun ρ s => pos c ρ 1 s 4 4) (fun ρ s => pos c ρ 2 s 4 4))
    isplitl [P1] <;> iassumption
  isplitl [L0]; · iexact L0
  isplitl [L1]; · iexact L1
  iexact L2

/-- A device's run. -/
theorem text_spec (c : Dev nD) (Q : PUnit → sProp 𝕄) :
    iprop(Ctx X V κ ν ∗ xw X V c ∗ Pre c) ⊢ iprop(((xw X V c ∗ Post X V c) -∗ Q ⟨⟩) -∗ Wp c (text (nx c) (xoT c)) Q) := by
  unfold text Pre axBuf
  iintro ⟨#HC, Hx, HS, HU, HB, HX, ⟨X0, X1, X2, X3, X4⟩, Hbar, Hy, HO, Hbl⟩ Hk
  ihave HL := (lanes_fresh (F := F) c) $$ [HU HB]
  · isplitl [HU] <;> iassumption
  icases HL with ⟨L0, HL⟩
  iapply (fill_spec X V c 0) $$ [Hx L0]
  · isplitl [Hx] <;> iassumption
  iintro ⟨Hx, L0⟩
  ihave HL := (four_all _) $$ HL
  icases HL with ⟨A, B, C, D⟩
  imod (begin_lane X V κ ν c false 0) $$ [A] with ⟨A, #A'⟩
  · isplitr; · iexact HC
    iexact A
  imod (begin_lane X V κ ν c true 0) $$ [B] with ⟨B, #B'⟩
  · isplitr; · iexact HC
    iexact B
  imod (begin_lane X V κ ν c false 1) $$ [C] with ⟨C, #C'⟩
  · isplitr; · iexact HC
    iexact C
  imod (begin_lane X V κ ν c true 1) $$ [D] with ⟨D, #D'⟩
  · isplitr; · iexact HC
    iexact D
  iapply (barrier_spec X V κ ν c) $$ [HS X1 X2 X4 Hbar]
  · isplitr; · iexact HC
    isplitl [HS]; · iexact HS
    isplitl [X1 X4]
    · isplitr
      · iapply (openSlots_of (F := F) c false); isplitr; · iexact A'
        iexact C'
      unfold openAx; isplitl [X1] <;> iassumption
    isplitl [X2]
    · isplitr
      · iapply (openSlots_of (F := F) c true); isplitr; · iexact B'
        iexact D'
      unfold openAx; iexact X2
    iexact Hbar
  iintro ⟨HS, #Hop, HT, Hbar⟩
  have hb : iprop(begun (F := F) c false 0 ∗ begun c true 0 ∗ begun c false 1 ∗ begun c true 1)
      ⊢ iprop((four fun ρ s => pos c ρ 0 s 0 1) ∗ (four fun ρ s => pos c ρ 1 s 0 1) ∗ four fun ρ s => pos c ρ 2 s 0 1) := by
    show (four fun ρ s => begun (F := F) c ρ s) ⊢ _
    unfold begun
    exact (four_sep _ _).trans (sep_mono_right (four_sep _ _))
  ihave HP := hb $$ [A B C D]
  · isplitl [A]; · iexact A
    isplitl [B]; · iexact B
    isplitl [C] <;> iassumption
  icases HP with ⟨P0, P1, P2⟩
  iapply (kick_spec X V κ ν c 0 false rfl (n := 2) (m := 2) (by decide +kernel)) $$ [Hx HS P0 L0]
  · isplitr; · iexact HC
    isplitr; · iexact Hop
    isplitl [Hx]; · iexact Hx
    isplitl [HS]; · iexact HS
    isplitl [P0]; · iexact P0
    iexact L0
  iintro ⟨Hx, HS, F0⟩
  ihave HL := (lanes_start X V c 0) $$ [F0 P1 P2]
  · isplitl [F0]; · iexact F0
    isplitl [P1]; · iexact P1
    iexact P2
  have hy0 : yAny (F := F) c ⊢ yAt X V c 0 := by
    unfold yAny yAt
    iintro ⟨%f, H⟩
    iexists f
    isplitr; · ipureintro; intro i hi; exact absurd hi (Nat.not_lt_zero i)
    iexact H
  ihave Hy := hy0 $$ Hy
  iapply (round_spec X V κ ν c (k := 0) (k' := 1) rfl false rfl (n := 6) (m := 2) (n1 := 22) (m1 := 14) (n2 := 26) (m2 := 18) (n3 := 30)
    (by decide +kernel) rfl rfl (by decide +kernel) rfl rfl (by decide +kernel) rfl) $$ [Hx HS Hy HL]
  · isplitr; · iexact HC
    isplitr; · iexact Hop
    isplitl [Hx]; · iexact Hx
    isplitl [HS]; · iexact HS
    isplitl [Hy]; · iexact Hy
    iexact HL
  iintro ⟨Hx, HS, Hy, HL⟩
  iapply (round_spec X V κ ν c (k := 1) (k' := 2) rfl true rfl (n := 30) (m := 18) (n1 := 46) (m1 := 38) (n2 := 50) (m2 := 42) (n3 := 54)
    (by decide +kernel) rfl rfl (by decide +kernel) rfl rfl (by decide +kernel) rfl) $$ [Hx HS Hy HL]
  · isplitr; · iexact HC
    isplitr; · iexact Hop
    isplitl [Hx]; · iexact Hx
    isplitl [HS]; · iexact HS
    isplitl [Hy]; · iexact Hy
    iexact HL
  iintro ⟨Hx, HS, Hy, HL⟩
  iapply (round_spec X V κ ν c (k := 2) (k' := 3) rfl true rfl (n := 54) (m := 42) (n1 := 70) (m1 := 62) (n2 := 74) (m2 := 66) (n3 := 78)
    (by decide +kernel) rfl rfl (by decide +kernel) rfl rfl (by decide +kernel) rfl) $$ [Hx HS Hy HL]
  · isplitr; · iexact HC
    isplitr; · iexact Hop
    isplitl [Hx]; · iexact Hx
    isplitl [HS]; · iexact HS
    isplitl [Hy]; · iexact Hy
    iexact HL
  iintro ⟨Hx, HS, Hy, HL⟩
  iapply (hops_spec X V κ ν c 3 false true rfl rfl (n := 78) (m := 66) (by decide +kernel)) $$ [Hx HS HL]
  · isplitr; · iexact HC
    isplitr; · iexact Hop
    isplitl [Hx]; · iexact Hx
    isplitl [HS]; · iexact HS
    iexact HL
  iintro ⟨Hx, HS, HL⟩
  ihave HL := (lanes_apart X V c 3) $$ HL
  icases HL with ⟨L0, B0, B1, P2, L3⟩
  iapply (fins_spec X V κ ν c 3 false rfl (n := 86) (m := 86) (by decide +kernel)) $$ [HS Hy P2 L3]
  · isplitr; · iexact HC
    isplitl [HS]; · iexact HS
    isplitl [Hy]; · iexact Hy
    isplitl [P2] <;> iassumption
  iintro ⟨HS, Hy, B2⟩
  ihave HL := (lanes_spent (F := F) c) $$ [B0 B1 B2]
  · isplitl [B0]; · iexact B0
    isplitl [B1] <;> iassumption
  icases HL with ⟨HE, L1, L2, L3⟩
  ihave L0 := (four_all _) $$ L0
  ihave L1 := (four_all _) $$ L1
  ihave L2 := (four_all _) $$ L2
  ihave L3 := (four_all _) $$ L3
  icases L0 with ⟨a0, b0, c0, d0⟩
  icases L1 with ⟨a1, b1, c1, d1⟩
  icases L2 with ⟨a2, b2, c2, d2⟩
  icases L3 with ⟨a3, b3, c3, d3⟩
  iapply (exchange_spec X V κ ν c) $$ [HS HX X0 X3 HT]
  · isplitr; · iexact HC
    isplitl [HS]; · iexact HS
    isplitl [HX]; · iexact HX
    isplitl [X0]; · iexact X0
    isplitl [X3] <;> iassumption
  iintro ⟨HS, HX, X⟩
  unfold oCells
  icases HO with ⟨O0, O1⟩
  iapply (tiles_spec X V κ ν c) $$ [Hy HS O0 O1 a0 a1 c0 c1 Hbl]
  · isplitr; · iexact HC
    isplitl [Hy]; · iexact Hy
    isplitl [HS]; · iexact HS
    isplitr [Hbl]; swap; · iexact Hbl
    unfold rest
    isplitl [O0 a0 c0]
    · isplitl [O0]; · iexact O0
      isplitl [a0]; · iexact a0
      iexact c0
    · isplitl [O1]; · iexact O1
      isplitl [a1]; · iexact a1
      iexact c1
  unfold rest
  iintro ⟨Hy, HS, ⟨⟨O0, ⟨a0, c0⟩⟩, ⟨O1, ⟨a1, c1⟩⟩⟩, Hd⟩
  unfold Wp; rw [wp_ret]
  imodintro
  iapply Hk
  isplitl [Hx]; · iexact Hx
  unfold Post axBuf
  isplitl [HS]; · iexact HS
  isplitl [HE]; · iexact HE
  isplitr [HX X Hbar Hy O0 O1 Hd]
  · unfold slBuf
    isplitl [a0 a1 a2 a3 c0 c1 c2 c3]
    · isplitl [a0 a1 a2 a3]
      · isplitl [a0]; · iexact a0
        isplitl [a1]; · iexact a1
        isplitl [a2]; · iexact a2
        iexact a3
      · isplitl [c0]; · iexact c0
        isplitl [c1]; · iexact c1
        isplitl [c2]; · iexact c2
        iexact c3
    · isplitl [b0 b1 b2 b3]
      · isplitl [b0]; · iexact b0
        isplitl [b1]; · iexact b1
        isplitl [b2]; · iexact b2
        iexact b3
      · isplitl [d0]; · iexact d0
        isplitl [d1]; · iexact d1
        isplitl [d2]; · iexact d2
        iexact d3
  isplitl [HX]; · iexact HX
  isplitl [X]; · iexact X
  isplitl [Hbar]; · iexact Hbar
  isplitl [Hy]
  · unfold yAt yAny
    icases Hy with ⟨%f, -, Hy⟩
    iexists f; iexact Hy
  isplitl [O0 O1]
  · unfold oCells
    isplitl [O0] <;> iassumption
  iexact Hd

end Cert.Proof

end
-- ==== Proof.Close.lean ====
/-
  The two ends of a device's run: what it starts from put together, and its cells closed when it is done.
-/
module

public import proofs.«01_k».proof.Proof.Device

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))
variable (κ : Dev nD × CK → ℕ) (ν : Key → ℕ)

/-! ### The cells one by one -/

theorem sep_right (A B C : sProp 𝕄) : iprop((A ∗ B) ∗ C) = iprop(A ∗ B ∗ C) := BI.Entails.antisymm BI.sep_assoc BI.sep_assoc'

/-- Something for both cells of each hop of a lane. -/
def hopCells (f : CK → sProp 𝕄) (ρ : Bool) (s : Fin 2) : sProp 𝕄 :=
  iprop((f (.snd ρ 0 s) ∗ f (.rcv ρ 0 s)) ∗ (f (.snd ρ 1 s) ∗ f (.rcv ρ 1 s)) ∗ f (.snd ρ 2 s) ∗ f (.rcv ρ 2 s))

/-- Something for the cells of the exchange. -/
def axCells (f : CK → sProp 𝕄) : sProp 𝕄 :=
  iprop((f (.axs 0) ∗ f (.axr 0)) ∗ (f (.axs 1) ∗ f (.axr 1)) ∗ f (.axs 2) ∗ f (.axr 2))

/-- Something for the cells of the copies to the result. -/
def outCells (f : CK → sProp 𝕄) : sProp 𝕄 :=
  iprop((f (.out 0 0) ∗ f (.out 0 1)) ∗ f (.out 1 0) ∗ f (.out 1 1))

/-- All cells of a device, by what they are for. -/
def allCells (f : CK → sProp 𝕄) : sProp 𝕄 :=
  iprop(f .bar ∗ (f (.crd false) ∗ f (.crd true)) ∗ four (hopCells f) ∗ axCells f ∗ outCells f)

theorem cells_eq (f : CK → sProp 𝕄) : bigSep Finset.univ f = allCells f := by
  refine (bigSep_univ_eq_bigSepL [.bar, .crd false, .crd true,
    .snd false 0 0, .rcv false 0 0, .snd false 1 0, .rcv false 1 0, .snd false 2 0, .rcv false 2 0,
    .snd true 0 0, .rcv true 0 0, .snd true 1 0, .rcv true 1 0, .snd true 2 0, .rcv true 2 0,
    .snd false 0 1, .rcv false 0 1, .snd false 1 1, .rcv false 1 1, .snd false 2 1, .rcv false 2 1,
    .snd true 0 1, .rcv true 0 1, .snd true 1 1, .rcv true 1 1, .snd true 2 1, .rcv true 2 1,
    .axs 0, .axr 0, .axs 1, .axr 1, .axs 2, .axr 2, .out 0 0, .out 0 1, .out 1 0, .out 1 1] (by decide +kernel) (by decide +kernel) f).trans ?_
  unfold allCells four hopCells axCells outCells
  simp only [sep_right]
  rfl

/-! ### The end -/

/-- The round at which a cell has seen all. -/
def lastR : CK → ℕ
  | .snd .. => 4
  | .rcv .. => 4
  | .out .. => 4
  | _ => 1

theorem duties_end (c : Dev nD) (k : CK) (r : ℕ) (h : lastR k ≤ r) : (Rd X V).duties (cell c k) r = ∅ := by
  rw [Rd_duties]; cases k <;> (dsimp only [lastR] at h; dsimp only [dutiesK]; rw [if_neg (by omega)])

/-- A cell that has seen all closes: its counter is at zero. -/
theorem close_cell (c : Dev nD) (k : CK) :
    iprop(Ctx X V κ ν ∗ atPos ER (cell c k) (lastR k) ∅ 0) ⊢ (|={Set.univ}=> semVal (cell c k) 0 : sProp 𝕄) := by
  iintro ⟨#HC, Hat⟩
  ihave #HI := (Ctx_inv X V κ ν c k) $$ HC
  iapply (Rounds.cell_close ER (Rd X V) (Set.mem_univ (κ (c, k))) (fun h => h) (duties_end X V c k))
  isplitr; · iexact HI
  iexact Hat

/-- A credit cell at which all credits were read. -/
theorem credit_end (c : Dev nD) (ρ : Bool) :
    iprop(Ctx X V κ ν ∗ crIn c ρ 18) ⊢ (|={Set.univ}=> atPos ER (cell c (.crd ρ)) (lastR (.crd ρ)) ∅ 0 : sProp 𝕄) := by
  unfold crIn
  iintro ⟨#HC, ⟨%T, %hT, Hat, -⟩⟩
  ihave #HI := (Ctx_inv X V κ ν c (.crd ρ)) $$ HC
  have hT' : T = Finset.range 18 := Finset.eq_of_subset_of_card_le hT.1 (by rw [Finset.card_range]; exact hT.2)
  imod (Rounds.fupd_skip ER (Rd X V) (κ := κ (c, .crd ρ)) (g := cell c (.crd ρ)) (R := 0) (m := 18) (T := T)
    (by rw [hT', Rd_duties]; exact subset_rfl) (expect_crd X V c ρ).symm (Set.mem_univ _)) $$ [Hat] with ⟨Hat, -⟩
  · isplitr; · iexact HI
    iexact Hat
  imodintro
  iexact Hat

/-- Where all cells stand at the end. -/
abbrev endAt (c : Dev nD) (k : CK) : sProp 𝕄 := atPos ER (cell c k) (lastR k) ∅ 0

theorem close_cells (c : Dev nD) :
    iprop(Ctx X V κ ν ∗ bigSep Finset.univ (endAt (F := F) c)) ⊢ (|={Set.univ}=> bigSep Finset.univ fun k => semVal (cell c k) 0 : sProp 𝕄) :=
  (bigSep_with_persistent (R := Ctx X V κ ν) fun k _ => close_cell X V κ ν c k).trans (bigSep_fupd _ _)

theorem pos_end (c : Dev nD) (ρ : Bool) (h : Fin 3) (s : Fin 2) : pos (F := F) c ρ h s 4 4 ⊢ iprop(endAt c (.snd ρ h s) ∗ endAt c (.rcv ρ h s)) := by
  unfold pos
  iintro ⟨H1, H2, -⟩
  isplitl [H1]; · iexact H1
  iexact H2

theorem spent_end (c : Dev nD) (ρ : Bool) (s : Fin 2) : spent (F := F) c ρ s ⊢ hopCells (endAt c) ρ s := by
  unfold spent hopCells
  exact BI.sep_mono (pos_end c ρ 0 s) (BI.sep_mono (pos_end c ρ 1 s) (pos_end c ρ 2 s))

theorem oPos_end (c : Dev nD) (b s : Fin 2) : oPos (F := F) c b s 4 ⊢ endAt c (.out b s) := by
  unfold oPos
  iintro ⟨H1, -⟩; iexact H1

theorem oCells_end (c : Dev nD) : oCells (F := F) c 4 ⊢ outCells (endAt c) := by
  unfold oCells outCells
  exact BI.sep_mono (BI.sep_mono (oPos_end c 0 0) (oPos_end c 0 1)) (BI.sep_mono (oPos_end c 1 0) (oPos_end c 1 1))

theorem nWt_end (ρ : Bool) : nWt ρ 89 = 18 := by revert ρ; decide +kernel

/-- What a device keeps when it is done. -/
def Left (c : Dev nD) : sProp 𝕄 :=
  iprop((bigSep Finset.univ fun k => semVal (cell c k) 0) ∗ (slBuf (F := F) c false ∗ slBuf c true) ∗ axBuf c ∗ yAny c
    ∗ bigSep (Finset.univ : Finset (Fin 8)) fun t => done X V c t)

/-- The end: nothing is owed, and every cell closes. -/
theorem finish (c : Dev nD) :
    iprop(Ctx X V κ ν ∗ Post X V c) ⊢ (|={Set.univ}=> ((∃ W, owes (c : Thread nD τ) 0 W) ∗ Left X V c) : sProp 𝕄) := by
  unfold Post St todo Left
  rw [nWt_end, nWt_end, Ov_end]
  iintro ⟨#HC, ⟨⟨Ho, -⟩, -, -, C0, C1⟩, HE, HB, HX, HXB, Hbar, Hy, HO, Hd⟩
  imod (credit_end X V κ ν c false) $$ [C0] with C0
  · isplitr; · iexact HC
    iexact C0
  imod (credit_end X V κ ν c true) $$ [C1] with C1
  · isplitr; · iexact HC
    iexact C1
  ihave HE := (four_mono fun ρ s => spent_end (F := F) c ρ s) $$ HE
  ihave HO := (oCells_end (F := F) c) $$ HO
  imod (close_cells X V κ ν c) $$ [Hbar C0 C1 HE HX HO] with Hs
  · isplitr; · iexact HC
    rw [cells_eq]
    unfold allCells
    isplitl [Hbar]; · iexact Hbar
    isplitl [C0 C1]
    · isplitl [C0]; · iexact C0
      iexact C1
    isplitl [HE]; · iexact HE
    isplitl [HX]; · unfold axCells axAll axPos at *; iexact HX
    iexact HO
  imodintro
  isplitl [Ho]; · iexact Ho
  isplitl [Hs]; · iexact Hs
  isplitl [HB]; · iexact HB
  isplitl [HXB]; · iexact HXB
  isplitl [Hy] <;> iassumption

/-! ### The start -/

/-- Something for each landing slot of a lane. -/
def hopSlots (f : Bool × Fin 3 × Fin 2 → sProp 𝕄) (ρ : Bool) (s : Fin 2) : sProp 𝕄 := iprop(f (ρ, 0, s) ∗ f (ρ, 1, s) ∗ f (ρ, 2, s))

theorem slots_eq (f : Bool × Fin 3 × Fin 2 → sProp 𝕄) : bigSep Finset.univ f = four (hopSlots f) := by
  refine (bigSep_univ_eq_bigSepL [(false, 0, 0), (false, 1, 0), (false, 2, 0), (true, 0, 0), (true, 1, 0), (true, 2, 0),
    (false, 0, 1), (false, 1, 1), (false, 2, 1), (true, 0, 1), (true, 1, 1), (true, 2, 1)] (by decide +kernel) (by decide +kernel) f).trans ?_
  unfold four hopSlots
  simp only [sep_right]
  rfl

/-- Where all cells stand at the start. -/
abbrev startAt (c : Dev nD) (k : CK) : sProp 𝕄 := atPos ER (cell c k) 0 ∅ 0

/-- The duties of the copies to the result, tile by tile. -/
def outToks (c : Dev nD) (t : Fin 8) : sProp 𝕄 :=
  iprop(dutyTok ER (cell c (.out (bOf t) 0)) (rOf t).val 0 ∗ dutyTok ER (cell c (.out (bOf t) 1)) (rOf t).val 0)

/-- A device's own part of the protocol at the start. -/
def Ghost (c : Dev nD) : sProp 𝕄 :=
  iprop((bigSep Finset.univ fun k => startAt c k) ∗ (bigSep (Finset.univ : Finset (Bool × Fin 3 × Fin 2)) fun x => readerAt ES (c, x) 0)
    ∗ (bigSep (Finset.Ico 0 89) fun i => evRes (F := F) c (evAt i)) ∗ bigSep (Finset.univ : Finset (Fin 8)) fun t => outToks c t)

/-- The result's columns at any contents. -/
def colsAny (c : Dev nD) : sProp 𝕄 := bigSep (Finset.univ : Finset (Fin 8)) fun t => iprop(ocAny (F := F) c t 0 ∗ ocAny c t 1)

theorem pos_start (c : Dev nD) (ρ : Bool) (h : Fin 3) (s : Fin 2) :
    iprop(Ctx X V κ ν ∗ (startAt c (.snd ρ h s) ∗ startAt c (.rcv ρ h s)) ∗ readerAt ES (c, ρ, h, s) 0) ⊢ pos (F := F) c ρ h s 0 0 := by
  unfold pos
  iintro ⟨#HC, ⟨H1, H2⟩, H3⟩
  ihave #R1 := (Ctx_reached X V κ ν c (.snd ρ h s)) $$ HC
  ihave #R2 := (Ctx_reached X V κ ν c (.rcv ρ h s)) $$ HC
  isplitl [H1]; · iexact H1
  isplitl [H2]; · iexact H2
  isplitr; · iexact R1
  isplitr; · iexact R2
  iexact H3

theorem unmoved_start (c : Dev nD) (ρ : Bool) (s : Fin 2) :
    iprop(Ctx X V κ ν ∗ hopCells (startAt c) ρ s ∗ hopSlots (fun x => readerAt ES (c, x) 0) ρ s) ⊢ unmoved (F := F) c ρ s := by
  unfold unmoved hopCells hopSlots
  iintro ⟨#HC, ⟨A0, A1, A2⟩, B0, B1, B2⟩
  isplitl [A0 B0]
  · iapply (pos_start X V κ ν c ρ 0 s)
    isplitr; · iexact HC
    isplitl [A0]; · iexact A0
    iexact B0
  isplitl [A1 B1]
  · iapply (pos_start X V κ ν c ρ 1 s)
    isplitr; · iexact HC
    isplitl [A1]; · iexact A1
    iexact B1
  · iapply (pos_start X V κ ν c ρ 2 s)
    isplitr; · iexact HC
    isplitl [A2]; · iexact A2
    iexact B2

theorem four_with {R : sProp 𝕄} [BI.Persistent R] {f g : Bool → Fin 2 → sProp 𝕄} (h : ∀ ρ s, iprop(R ∗ f ρ s) ⊢ g ρ s) : iprop(R ∗ four f) ⊢ four g := by
  unfold four
  iintro ⟨#HR, A, B, C, D⟩
  isplitl [A]
  · iapply (h false 0); isplitr; · iexact HR
    iexact A
  isplitl [B]
  · iapply (h true 0); isplitr; · iexact HR
    iexact B
  isplitl [C]
  · iapply (h false 1); isplitr; · iexact HR
    iexact C
  · iapply (h true 1); isplitr; · iexact HR
    iexact D

theorem oPos_start (c : Dev nD) (b s : Fin 2) : iprop(Ctx X V κ ν ∗ startAt c (.out b s)) ⊢ oPos (F := F) c b s 0 := by
  unfold oPos
  iintro ⟨#HC, H1⟩
  ihave #R1 := (Ctx_reached X V κ ν c (.out b s)) $$ HC
  isplitl [H1]; · iexact H1
  iexact R1

theorem oCells_start (c : Dev nD) : iprop(Ctx X V κ ν ∗ outCells (startAt c)) ⊢ oCells (F := F) c 0 := by
  unfold oCells outCells
  iintro ⟨#HC, ⟨A, B⟩, C, D⟩
  isplitl [A B]
  · isplitl [A]
    · iapply (oPos_start X V κ ν c 0 0); isplitr; · iexact HC
      iexact A
    · iapply (oPos_start X V κ ν c 0 1); isplitr; · iexact HC
      iexact B
  · isplitl [C]
    · iapply (oPos_start X V κ ν c 1 0); isplitr; · iexact HC
      iexact C
    · iapply (oPos_start X V κ ν c 1 1); isplitr; · iexact HC
      iexact D

theorem crIn_start (c : Dev nD) (ρ : Bool) : startAt (F := F) c (.crd ρ) ⊢ crIn c ρ 0 := by
  unfold crIn
  iintro H
  iexists ∅
  isplitr; · ipureintro; exact ⟨Finset.empty_subset _, Nat.zero_le _⟩
  isplitl [H]; · iexact H
  rw [bigSep_empty]; iempintro

theorem pieces_start (c : Dev nD) (ρ : Bool) : (BI.emp : sProp 𝕄) ⊢ pieces (F := F) c ρ 0 := by
  unfold pieces; rw [Finset.range_zero, bigSep_empty]

theorem blanks_start (c : Dev nD) : iprop(colsAny (F := F) c ∗ bigSep (Finset.univ : Finset (Fin 8)) fun t => outToks c t)
    ⊢ bigSep (Finset.univ : Finset (Fin 8)) fun t => blank (F := F) c t (bOf t) (rOf t).val := by
  unfold colsAny
  rw [← bigSep_sep']
  refine bigSep_mono fun t _ => ?_
  show iprop((ocAny (F := F) c t 0 ∗ ocAny c t 1) ∗ outToks c t) ⊢ blank c t (bOf t) (rOf t).val
  unfold outToks blank
  iintro ⟨⟨A, B⟩, C, D⟩
  isplitl [A C]; · isplitl [A] <;> iassumption
  isplitl [B] <;> iassumption

/-- The start: a device's own part of the protocol, its credit, its buffers. -/
theorem begin_all (c : Dev nD) :
    iprop(Ctx X V κ ν ∗ Ghost (F := F) c ∗ creds c 0 ∗ (∃ W, owes (c : Thread nD τ) (Ov c 0) W) ∗ (slBuf c false ∗ slBuf c true) ∗ axBuf c ∗ yAny c ∗ colsAny c)
      ⊢ Pre (F := F) c := by
  unfold Ghost Pre St todo
  rw [cells_eq, slots_eq]
  unfold allCells
  iintro ⟨#HC, ⟨⟨Hbar, ⟨C0, C1⟩, HE, HX, HO⟩, HR, Hev, Htk⟩, Hcr, Ho, HB, HXB, Hy, Hcol⟩
  isplitl [Ho Hev Hcr C0 C1]
  · isplitl [Ho Hev]
    · isplitl [Ho] <;> iassumption
    isplitl [Hcr]; · iexact Hcr
    isplitr
    · isplitl
      · iapply (pieces_start (F := F) c false); iempintro
      · iapply (pieces_start (F := F) c true); iempintro
    isplitl [C0]
    · iapply (crIn_start (F := F) c false); iexact C0
    · iapply (crIn_start (F := F) c true); iexact C1
  isplitl [HE HR]
  · iapply (four_with (R := Ctx X V κ ν) fun ρ s => unmoved_start X V κ ν c ρ s)
    isplitr; · iexact HC
    iapply (four_pair (F := F) (hopCells (startAt c)) (hopSlots fun x => readerAt ES (c, x) 0))
    isplitl [HE] <;> iassumption
  isplitl [HB]; · iexact HB
  isplitl [HX]; · unfold axCells axAll axPos at *; iexact HX
  isplitl [HXB]; · iexact HXB
  isplitl [Hbar]; · iexact Hbar
  isplitl [Hy]; · iexact Hy
  isplitl [HO]
  · iapply (oCells_start X V κ ν c)
    isplitr; · iexact HC
    iexact HO
  iapply (blanks_start (F := F) c)
  isplitl [Hcol] <;> iassumption

end Cert.Proof

end
-- ==== Proof.Bufs.lean ====
/-
  The buffers cut into the pieces that travel, and joined from them.
-/
module

public import proofs.«01_k».proof.Proof.Close
public import Idealize.ShloMosaic.Lib.Ring

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))

/-! ### Cutting and joining -/

/-- A buffer at any contents is its blocks at any contents. -/
theorem cut_any {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ f, ℓ ↦{fullShare} f) : sProp 𝕄) ⊢ bigSep Finset.univ fun b => slot ℓ (I b) := by
  iintro ⟨%f, H⟩
  have e : (ℓ ↦{fullShare} f : sProp 𝕄) ⊢ bigSep Finset.univ fun b => slot ℓ (I b) := by
    rw [Ring.pointsTo_blocks I hd hc f]
    refine bigSep_mono fun b _ => ?_
    show (ℓ ↦[I b]{fullShare} f : sProp 𝕄) ⊢ slot ℓ (I b)
    unfold slot
    iintro H; iexists f; iexact H
  iapply e; iexact H

/-- Blocks at contents that are known join to a buffer that agrees with all of them. -/
theorem join_known {ℓ : Loc nD τ sig} {B : Type} [Fintype B] [DecidableEq B] (I : B → Finset (Idx ℓ)) (f₀ : Buf (Elt F) ℓ)
    (hd : ∀ b b', b ≠ b' → Disjoint (I b) (I b')) (hc : Finset.univ.biUnion I = Finset.univ) (φ : B → Buf (Elt F) ℓ → Prop)
    (hφ : ∀ b f g, (∀ i ∈ I b, g i = f i) → φ b f → φ b g) :
    (bigSep Finset.univ fun b => (iprop(∃ f, ⌜φ b f⌝ ∗ ℓ ↦[I b]{fullShare} f) : sProp 𝕄)) ⊢ iprop(∃ g, ⌜∀ b, φ b g⌝ ∗ ℓ ↦{fullShare} g) := by
  have : Nonempty (Buf (Elt F) ℓ) := ⟨f₀⟩
  refine (BI.bigSep_exists_pi Finset.univ fun b (f : Buf (Elt F) ℓ) => (iprop(⌜φ b f⌝ ∗ ℓ ↦[I b]{fullShare} f) : sProp 𝕄)).trans ?_
  iintro ⟨%fs, H⟩
  ihave H := (bigSep_pure_sep Finset.univ (fun b => φ b (fs b)) fun b => (ℓ ↦[I b]{fullShare} fs b : sProp 𝕄)) $$ H
  icases H with ⟨%hp, H⟩
  ihave H := (pointsTo_biUnion_join Finset.univ I fs f₀ (fun b _ b' _ h => hd b b' h)) $$ H
  icases H with ⟨%g, %hg, H⟩
  rw [hc]
  iexists g
  isplitr
  · ipureintro; exact fun b => hφ b (fs b) g (hg b (Finset.mem_univ b)) (hp b (Finset.mem_univ b))
  iexact H

/-- Blocks at any contents join to the buffer at any contents. -/
theorem join_any {ℓ : Loc nD τ sig} {B : Type} [Fintype B] [DecidableEq B] (I : B → Finset (Idx ℓ)) (b₀ : B)
    (hd : ∀ b b', b ≠ b' → Disjoint (I b) (I b')) (hc : Finset.univ.biUnion I = Finset.univ) :
    (bigSep Finset.univ fun b => (slot ℓ (I b) : sProp 𝕄)) ⊢ iprop(∃ f, ℓ ↦{fullShare} f) := by
  have hn : slot ℓ (I b₀) ⊢ (⌜Nonempty (Buf (Elt F) ℓ)⌝ : sProp 𝕄) := by
    unfold slot
    iintro ⟨%f, -⟩; ipureintro; exact ⟨f⟩
  have h1 : (bigSep Finset.univ fun b => (slot ℓ (I b) : sProp 𝕄)) ⊢ slot ℓ (I b₀) := bigSep_elim (Finset.mem_univ b₀)
  refine Laws.pure_elim (Nonempty (Buf (Elt F) ℓ)) (h1.trans hn) fun h => ?_
  obtain ⟨f₀⟩ := h
  exact Ring.pointsTo_blocks_join_exists I hd hc f₀

/-! ### The slots of a ring -/

/-- The elements of a lane. -/
abbrev laneSet (ρ : Bool) (b : Fin 2 × Fin 4) : Finset (slM ρ).view.ty.Idx := (laneM ρ b.2 b.1).view.set

theorem laneSet_sep (ρ : Bool) (b b' : Fin 2 × Fin 4) (h : b ≠ b') : Disjoint (laneSet ρ b) (laneSet ρ b') := by
  unfold laneSet
  rw [lane_set, lane_set]
  have h' : ¬(b.1.val = b'.1.val ∧ b.2.val = b'.2.val) := fun e => h (Prod.ext (Fin.ext e.1) (Fin.ext e.2))
  by_cases h2 : b.2.val = b'.2.val
  · refine View.disjoint_slice_of_sep (slM ρ).view _ _ (1 : Fin 4) rfl rfl ?_
    show b.1.val + 1 ≤ b'.1.val ∨ b'.1.val + 1 ≤ b.1.val
    omega
  · refine View.disjoint_slice_of_sep (slM ρ).view _ _ (0 : Fin 4) rfl rfl ?_
    show b.2.val + 1 ≤ b'.2.val ∨ b'.2.val + 1 ≤ b.2.val
    omega

theorem lane_mem (i : S4x2x1024x512.Idx) : i ∈ (laneRect (i 0) (i 1)).set := by
  rw [Rect.mem_set_unit]
  intro a
  have h2 := (i 2).isLt
  have h3 := (i 3).isLt
  match a with
  | 0 => exact ⟨le_refl _, Nat.lt_succ_self _⟩
  | 1 => exact ⟨le_refl _, Nat.lt_succ_self _⟩
  | 2 => exact ⟨Nat.zero_le _, by show (i 2).val < 0 + 1024; simpa using h2⟩
  | 3 => exact ⟨Nat.zero_le _, by show (i 3).val < 0 + 512; simpa using h3⟩

theorem laneSet_eq : ∀ (ρ : Bool) (l : Fin 2) (h : Fin 4) (i : S4x2x1024x512.Idx) (i' : (slM ρ).view.ty.Idx), HEq i i' →
    i ∈ (laneRect h l).set → i' ∈ laneSet ρ (l, h)
  | false, l, h, i, _, .refl _, hi =>
    (Finset.ext_iff.mp ((lane_set false h l).trans (View.set_slice_whole cc0_scratch0 (laneRect h l))) i).mpr hi
  | true, l, h, i, _, .refl _, hi =>
    (Finset.ext_iff.mp ((lane_set true h l).trans (View.set_slice_whole cc0_scratch1 (laneRect h l))) i).mpr hi

theorem laneSet_all : ∀ ρ : Bool, Finset.univ.biUnion (laneSet ρ) = Finset.univ
  | false => Finset.eq_univ_iff_forall.mpr fun (i : S4x2x1024x512.Idx) =>
      Finset.mem_biUnion.mpr ⟨(i 1, i 0), Finset.mem_univ _, laneSet_eq false (i 1) (i 0) i i HEq.rfl (lane_mem i)⟩
  | true => Finset.eq_univ_iff_forall.mpr fun (i : S4x2x1024x512.Idx) =>
      Finset.mem_biUnion.mpr ⟨(i 1, i 0), Finset.mem_univ _, laneSet_eq true (i 1) (i 0) i i HEq.rfl (lane_mem i)⟩

theorem slBuf_eq (c : Dev nD) (ρ : Bool) :
    (bigSep (Finset.univ : Finset (Fin 2 × Fin 4)) fun b => (slot ((slM ρ).view.loc (c : Thread nD τ)) (laneSet ρ b) : sProp 𝕄)) = slBuf c ρ := by
  refine (bigSep_univ_eq_bigSepL [(0, 0), (0, 1), (0, 2), (0, 3), (1, 0), (1, 1), (1, 2), (1, 3)] (by decide +kernel) (by decide +kernel) _).trans ?_
  unfold slBuf laneAny
  simp only [sep_right]
  rfl

/-- A ring's slots, cut into lanes and joined from them. -/
theorem slBuf_of (c : Dev nD) (ρ : Bool) : (iprop(∃ f, (slM ρ).view.loc (c : Thread nD τ) ↦{fullShare} f) : sProp 𝕄) ⊢ slBuf c ρ :=
  (cut_any (ℓ := (slM ρ).view.loc (c : Thread nD τ)) (laneSet ρ) (laneSet_sep ρ) (laneSet_all ρ)).trans (Entails.of_eq (slBuf_eq c ρ))
theorem slBuf_to (c : Dev nD) (ρ : Bool) : slBuf (F := F) c ρ ⊢ (iprop(∃ f, (slM ρ).view.loc (c : Thread nD τ) ↦{fullShare} f) : sProp 𝕄) :=
  (Entails.of_eq (slBuf_eq c ρ).symm).trans (join_any (ℓ := (slM ρ).view.loc (c : Thread nD τ)) (laneSet ρ) (0, 0) (laneSet_sep ρ) (laneSet_all ρ))

/-! ### The exchange's buffer -/

/-- The elements of a slot of the exchange. -/
abbrev axSet (i : Fin 5) : Finset aM.view.ty.Idx := (axM i).view.set

theorem axSet_sep (i j : Fin 5) (h : i ≠ j) : Disjoint (axSet i) (axSet j) := by
  unfold axSet
  rw [ax_set, ax_set]
  refine View.disjoint_slice_of_sep aM.view _ _ (0 : Fin 3) rfl rfl ?_
  show i.val + 1 ≤ j.val ∨ j.val + 1 ≤ i.val
  have : i.val ≠ j.val := fun e => h (Fin.ext e)
  omega

theorem ax_mem (i : S5x8x128.Idx) : i ∈ (axRect (i 0)).set := by
  rw [Rect.mem_set_unit]
  intro a
  have h1 := (i 1).isLt
  have h2 := (i 2).isLt
  match a with
  | 0 => exact ⟨le_refl _, Nat.lt_succ_self _⟩
  | 1 => exact ⟨Nat.zero_le _, by show (i 1).val < 0 + 8; simpa using h1⟩
  | 2 => exact ⟨Nat.zero_le _, by show (i 2).val < 0 + 128; simpa using h2⟩

theorem axSet_all : Finset.univ.biUnion axSet = Finset.univ :=
  Finset.eq_univ_iff_forall.mpr fun (i : S5x8x128.Idx) => Finset.mem_biUnion.mpr ⟨i 0, Finset.mem_univ _,
    (Finset.ext_iff.mp ((ax_set (i 0)).trans (View.set_slice_whole cc0_scratch7 (axRect (i 0)))) i).mpr (ax_mem i)⟩

theorem axBuf_eq (c : Dev nD) :
    (bigSep (Finset.univ : Finset (Fin 5)) fun b => (slot (aM.view.loc (c : Thread nD τ)) (axSet b) : sProp 𝕄)) = axBuf c := by
  refine (bigSep_univ_eq_bigSepL [0, 1, 2, 3, 4] (by decide +kernel) (by decide +kernel) _).trans ?_
  unfold axBuf axAny
  rfl

theorem axBuf_of (c : Dev nD) : (iprop(∃ f, aM.view.loc (c : Thread nD τ) ↦{fullShare} f) : sProp 𝕄) ⊢ axBuf c :=
  (cut_any (ℓ := aM.view.loc (c : Thread nD τ)) axSet axSet_sep axSet_all).trans (Entails.of_eq (axBuf_eq c))
theorem axBuf_to (c : Dev nD) : axBuf (F := F) c ⊢ (iprop(∃ f, aM.view.loc (c : Thread nD τ) ↦{fullShare} f) : sProp 𝕄) :=
  (Entails.of_eq (axBuf_eq c).symm).trans (join_any (ℓ := aM.view.loc (c : Thread nD τ)) axSet 0 axSet_sep axSet_all)

/-! ### The result -/

/-- The elements of a lane of a tile of the result. -/
abbrev colSet (b : Fin 8 × Fin 2) : Finset oM.view.ty.Idx := (ocolM b.1 b.2).view.set

theorem colSet_sep (b b' : Fin 8 × Fin 2) (h : b ≠ b') : Disjoint (colSet b) (colSet b') :=
  ocol_sep b.1 b'.1 b.2 b'.2 (fun e => h (Prod.ext e.1 e.2)) oM.view

/-- The tile and the lane of a column. -/
def colTile (n : Fin 8192) : Fin 8 := ⟨n.val / 1024, by omega⟩
def colLane (n : Fin 8192) : Fin 2 := ⟨n.val % 1024 / 512, by omega⟩

theorem col_mem (i : S1024x8192.Idx) : i ∈ (ocolRect (colTile (i 1)) (colLane (i 1))).set := by
  rw [Rect.mem_set_unit]
  intro a
  have h0 := (i 0).isLt
  match a with
  | 0 => exact ⟨Nat.zero_le _, by show (i 0).val < 0 + 1024; simpa using h0⟩
  | 1 =>
    show (i 1).val / 1024 * 1024 + (i 1).val % 1024 / 512 * 512 ≤ (i 1).val ∧ (i 1).val < (i 1).val / 1024 * 1024 + (i 1).val % 1024 / 512 * 512 + 512
    omega

theorem colSet_all : Finset.univ.biUnion colSet = Finset.univ :=
  Finset.eq_univ_iff_forall.mpr fun (i : S1024x8192.Idx) => Finset.mem_biUnion.mpr ⟨(colTile (i 1), colLane (i 1)), Finset.mem_univ _,
    (Finset.ext_iff.mp (View.set_slice_whole main_v1 (ocolRect (colTile (i 1)) (colLane (i 1)))) i).mpr (col_mem i)⟩

theorem fin2_eq (Φ : Fin 2 → sProp 𝕄) : bigSep Finset.univ Φ = iprop(Φ 0 ∗ Φ 1) := BI.bigSep_fin_two Φ

/-- The result's buffer, cut into the lanes of its tiles. -/
theorem cols_of (c : Dev nD) : (iprop(∃ f, oM.view.loc (c : Thread nD τ) ↦{fullShare} f) : sProp 𝕄) ⊢ colsAny c := by
  refine (cut_any (ℓ := oM.view.loc (c : Thread nD τ)) colSet colSet_sep colSet_all).trans (Entails.of_eq ?_)
  unfold colsAny ocAny
  rw [bigSep_univ_prod]
  exact bigSep_congr fun t _ => fin2_eq _

/-- What the result's buffer holds at the end: each lane of each tile reads as the tile quantised. -/
def Out (c : Dev nD) (g : oM.view.ty.Contents (Elt F)) : Prop := ∀ (t : Fin 8) (s : Fin 2), (ocolM t s).view.read (Elt F) g = outV X V c t s

/-- The result's buffer, joined from its tiles. -/
theorem cols_to (c : Dev nD) (f₀ : oM.view.ty.Contents (Elt F)) :
    (bigSep (Finset.univ : Finset (Fin 8)) fun t => done X V c t)
      ⊢ (iprop(∃ g, ⌜Out X V c g⌝ ∗ oM.view.loc (c : Thread nD τ) ↦{fullShare} g) : sProp 𝕄) := by
  have e : (bigSep (Finset.univ : Finset (Fin 8)) fun t => done X V c t)
      = bigSep (Finset.univ : Finset (Fin 8 × Fin 2)) fun b => ocAt c b.1 b.2 (outV X V c b.1 b.2) := by
    rw [bigSep_univ_prod]
    exact bigSep_congr fun t _ => (fin2_eq fun s => ocAt c t s (outV X V c t s)).symm
  rw [e]
  refine (join_known (ℓ := oM.view.loc (c : Thread nD τ)) colSet f₀ colSet_sep colSet_all
    (fun b g => (ocolM b.1 b.2).view.read (Elt F) g = outV X V c b.1 b.2)
    (fun b f g h hf => (View.read_congr h).trans hf)).trans ?_
  iintro ⟨%g, %hg, H⟩
  iexists g
  isplitr; · ipureintro; exact fun t s => hg (t, s)
  iexact H

end Cert.Proof

end
-- ==== Proof.Start.lean ====
/-
  The start of the protocol: the duties minted and dealt, the invariants allocated, the credit of the launch.
-/
module

public import proofs.«01_k».proof.Proof.Bufs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (X : Dev nD → (cc0_stg0_0 : Ref sig .tc).ty.Contents (Elt F)) (V : Dev nD → (cc0_stg1_0 : Ref sig .tc).ty.Contents (Elt F))

/-! ### All payments -/

/-- The lanes' transfers of a device: ring, round, hop, lane. -/
abbrev Hop : Type := Bool × Fin 4 × Fin 3 × Fin 2

/-- The payments by their kinds. -/
def evSum : Ev ≃ Bool ⊕ Hop ⊕ (Bool × Fin 3 × Fin 3 × Fin 2) ⊕ Fin 3 where
  toFun
    | .bar ρ => .inl ρ
    | .snd ρ k h s => .inr (.inl (ρ, k, h, s))
    | .crd ρ k h s => .inr (.inr (.inl (ρ, k, h, s)))
    | .ax i => .inr (.inr (.inr i))
  invFun
    | .inl ρ => .bar ρ
    | .inr (.inl (ρ, k, h, s)) => .snd ρ k h s
    | .inr (.inr (.inl (ρ, k, h, s))) => .crd ρ k h s
    | .inr (.inr (.inr i)) => .ax i
  left_inv e := by cases e <;> rfl
  right_inv x := by rcases x with ρ | ⟨ρ, k, h, s⟩ | ⟨ρ, k, h, s⟩ | i <;> rfl

instance : Fintype Ev := Fintype.ofEquiv _ evSum.symm

theorem card_ev : Fintype.card Ev = 89 := by
  rw [Fintype.card_congr evSum]; simp

/-- The places of a list that holds every payment once. -/
theorem getD_inj (l : List Ev) (hl : l.length = 89) (hn : l.Nodup) : Set.InjOn (fun i => l.getD i (.bar false)) (Finset.Ico 0 89) := by
  intro i hi j hj h
  have hi' : i < l.length := by have := (Finset.mem_Ico.mp (Finset.mem_coe.mp hi)).2; omega
  have hj' : j < l.length := by have := (Finset.mem_Ico.mp (Finset.mem_coe.mp hj)).2; omega
  have h' : l.getD i (.bar false) = l.getD j (.bar false) := h
  rw [List.getD_eq_getElem?_getD, List.getD_eq_getElem?_getD, List.getElem?_eq_getElem hi', List.getElem?_eq_getElem hj', Option.getD_some, Option.getD_some] at h'
  exact (hn.getElem_inj_iff).mp h'

theorem getD_all (l : List Ev) (hl : l.length = 89) (hn : l.Nodup) : (Finset.Ico 0 89).image (fun i => l.getD i (.bar false)) = Finset.univ := by
  refine Finset.eq_univ_of_card _ ?_
  rw [Finset.card_image_of_injOn (getD_inj l hl hn), Nat.card_Ico, card_ev]

/-- Something for each payment, in program order; -/
theorem over_evs (f : Ev → sProp 𝕄) : (bigSep (Finset.Ico 0 89) fun i => f (evAt i)) = bigSep Finset.univ f := by
  rw [← getD_all evs evs_length evs_nodup, bigSep_image_of_injOn (getD_inj evs evs_length evs_nodup)]; rfl

/-- and in the order in which they are waited for. -/
theorem over_wts (f : Ev → sProp 𝕄) : (bigSep (Finset.Ico 0 89) fun i => f (wtAt i)) = bigSep Finset.univ f := by
  rw [← getD_all wts wts_length wts_nodup, bigSep_image_of_injOn (getD_inj wts wts_length wts_nodup)]; rfl

/-! ### The duties -/

/-- The duties that a device pays: those of its payments, of its transfers' own sides, of its copies to the result. -/
abbrev Tk : Type := Ev ⊕ Hop ⊕ Fin 3 ⊕ (Fin 8 × Fin 2)

/-- Where a duty lies: with a neighbour, or with the device itself. -/
def tkDir : Tk → Option Bool
  | .inl e => some e.dir
  | .inr _ => none

/-- The cell, the round and the number of a duty. -/
def tkAt : Tk → CK × ℕ × ℕ
  | .inl e => (e.ck, e.rd, e.duty)
  | .inr (.inl (ρ, k, h, s)) => (.snd ρ h s, k.val, 0)
  | .inr (.inr (.inl i)) => (.axs i, 0, 0)
  | .inr (.inr (.inr (t, s))) => (.out (bOf t) s, (rOf t).val, 0)

theorem tkAt_inj : Function.Injective tkAt := by decide +kernel

def goes (c : Dev nD) : Option Bool → Dev nD
  | some d => nx c d
  | none => c

theorem goes_inj : ∀ (o : Option Bool) (c c' : Dev nD), goes c o = goes c' o → c = c' := by decide +kernel

/-- A device's duty, as it is minted. -/
def tokOf (p : Dev nD × Tk) : GSem nD τ sig × ℕ × ℕ := (cell (goes p.1 (tkDir p.2)) (tkAt p.2).1, (tkAt p.2).2.1, (tkAt p.2).2.2)

theorem tokOf_inj : Function.Injective tokOf := by
  rintro ⟨c, x⟩ ⟨c', x'⟩ h
  obtain ⟨h1, h2⟩ := Prod.ext_iff.mp h
  obtain ⟨h2, h3⟩ := Prod.ext_iff.mp h2
  obtain ⟨hc, hk⟩ := cell_inj h1
  have hx : x = x' := tkAt_inj (Prod.ext hk (Prod.ext h2 h3))
  subst hx
  exact Prod.ext (goes_inj _ _ _ hc) rfl

def cellAt (p : Dev nD × CK) : GSem nD τ sig := cell p.1 p.2
theorem cellAt_inj : Function.Injective cellAt := fun p q h => Prod.ext (cell_inj h).1 (cell_inj h).2

/-- All cells and all duties. -/
def cellsAll : Finset (GSem nD τ sig) := Finset.univ.map ⟨cellAt, cellAt_inj⟩
def toksAll : Finset (GSem nD τ sig × ℕ × ℕ) := Finset.univ.map ⟨tokOf, tokOf_inj⟩

/-- A duty's token. -/
abbrev tok (c : Dev nD) (x : Tk) : sProp 𝕄 := dutyTok ER (tokOf (c, x)).1 (tokOf (c, x)).2.1 (tokOf (c, x)).2.2

/-- The leave to fill the next device's landing slots. -/
def writes (c : Dev nD) : sProp 𝕄 := bigSep (Finset.univ : Finset Hop) fun x => writeTok ES (nx c x.1, x.1, x.2.2.1, x.2.2.2) (x.2.1.val + 1)

/-- A device's duties, by what they are for. -/
theorem deal_toks (c : Dev nD) : iprop((bigSep Finset.univ fun x => tok (F := F) c x) ∗ writes c)
    ⊢ iprop((bigSep (Finset.Ico 0 89) fun i => evRes (F := F) c (evAt i)) ∗ bigSep (Finset.univ : Finset (Fin 8)) fun t => outToks c t) := by
  have e1 : (bigSep (Finset.Ico 0 89) fun i => evRes (F := F) c (evAt i))
      = iprop((bigSep Finset.univ fun e : Ev => tok (F := F) c (.inl e)) ∗ (bigSep Finset.univ fun x : Hop => tok c (.inr (.inl x)))
        ∗ writes c ∗ bigSep Finset.univ fun i : Fin 3 => tok c (.inr (.inr (.inl i)))) := by
    rw [over_evs]
    unfold evRes
    rw [bigSep_sep']
    refine congrArg₂ _ rfl ?_
    rw [bigSep_univ_equiv evSum.symm, bigSep_univ_sum, bigSep_univ_sum, bigSep_univ_sum]
    have h1 (A B C D : sProp 𝕄) : iprop(emp ∗ (A ∗ B) ∗ emp ∗ D) = iprop(A ∗ B ∗ D) := by
      refine BI.Entails.antisymm ?_ ?_
      · show iprop(emp ∗ (A ∗ B) ∗ emp ∗ D) ⊢ iprop(A ∗ B ∗ D)
        iintro ⟨-, ⟨HA, HB⟩, -, HD⟩
        isplitl [HA]; · iexact HA
        isplitl [HB] <;> iassumption
      · show iprop(A ∗ B ∗ D) ⊢ iprop(emp ∗ (A ∗ B) ∗ emp ∗ D)
        iintro ⟨HA, HB, HD⟩
        isplitr; · iempintro
        isplitl [HA HB]
        · isplitl [HA] <;> iassumption
        isplitr; · iempintro
        iexact HD
    refine Eq.trans ?_ (h1 _ _ iprop(emp) _)
    refine congrArg₂ _ (bigSep_emp_const _) (congrArg₂ _ ?_ (congrArg₂ _ (bigSep_emp_const _) rfl))
    unfold writes
    rw [← bigSep_sep']
    exact bigSep_congr fun x _ => rfl
  have e2 : (bigSep (Finset.univ : Finset (Fin 8)) fun t => outToks (F := F) c t) = bigSep Finset.univ fun x : Fin 8 × Fin 2 => tok c (.inr (.inr (.inr x))) := by
    rw [bigSep_univ_prod]
    exact bigSep_congr fun t _ => (fin2_eq fun s => tok (F := F) c (.inr (.inr (.inr (t, s))))).symm
  have e3 : (bigSep Finset.univ fun x => tok (F := F) c x)
      = iprop((bigSep Finset.univ fun e : Ev => tok (F := F) c (.inl e)) ∗ (bigSep Finset.univ fun x : Hop => tok c (.inr (.inl x)))
        ∗ (bigSep Finset.univ fun i : Fin 3 => tok c (.inr (.inr (.inl i)))) ∗ bigSep Finset.univ fun x : Fin 8 × Fin 2 => tok c (.inr (.inr (.inr x)))) := by
    rw [bigSep_univ_sum, bigSep_univ_sum, bigSep_univ_sum]
    rfl
  rw [e1, e2, e3]
  iintro ⟨⟨H1, H2, H3, H4⟩, HW⟩
  isplitr [H4]; swap; · iexact H4
  isplitl [H1]; · iexact H1
  isplitl [H2]; · iexact H2
  isplitl [HW] <;> iassumption

/-! ### The launch element -/

/-- A device's share of what the launch mints. -/
def G (c : Dev nD) : sProp 𝕄 :=
  iprop((bigSep Finset.univ fun k => roundState ER (Rd X V) (cell c k) 0)
    ∗ (bigSep Finset.univ fun k => reached ER (cell c k) 0) ∗ (bigSep Finset.univ fun k => startAt c k)
    ∗ (bigSep Finset.univ fun x => tok (F := F) c x) ∗ writes c
    ∗ (bigSep (Finset.univ : Finset (Bool × Fin 3 × Fin 2)) fun x => readerAt ES (c, x) 0)
    ∗ ∃ ν : Key → ℕ, bigSep (Finset.univ : Finset Key) fun x => slotInv ES (ν x) x (keySlot (F := F) x))

/-- The leaves to fill landing slots, by who fills them. -/
theorem deal_writes : (bigSep ((Finset.univ : Finset Key) ×ˢ Finset.range 4) fun x => (writeTok ES x.1 (x.2 + 1) : sProp 𝕄))
    ⊢ bigSep (Finset.univ : Finset (Dev nD)) fun c => writes (F := F) c := by
  let f : Dev nD × Hop → Key × ℕ := fun p => ((nx p.1 p.2.1, p.2.1, p.2.2.2.1, p.2.2.2.2), p.2.2.1.val)
  have hf : Function.Injective f := by
    rintro ⟨c, ρ, k, h, s⟩ ⟨c', ρ', k', h', s'⟩ e
    obtain ⟨e1, e2⟩ := Prod.ext_iff.mp e
    obtain ⟨e3, e4⟩ := Prod.ext_iff.mp e1
    obtain ⟨e4, e5⟩ := Prod.ext_iff.mp e4
    obtain ⟨e5, e6⟩ := Prod.ext_iff.mp e5
    have e4' : ρ = ρ' := e4
    have e5' : h = h' := e5
    have e6' : s = s' := e6
    have e2' : k = k' := Fin.ext e2
    subst e4' e5' e6' e2'
    have e3' : c = c' := (around ρ).injective e3
    subst e3'
    rfl
  have hs : (Finset.univ.map ⟨f, hf⟩) ⊆ (Finset.univ : Finset Key) ×ˢ Finset.range 4 := by
    intro x hx
    obtain ⟨p, -, rfl⟩ := Finset.mem_map.mp hx
    exact Finset.mem_product.mpr ⟨Finset.mem_univ _, Finset.mem_range.mpr p.2.2.1.isLt⟩
  refine (bigSep_subset hs).trans ?_
  rw [bigSep_map, bigSep_univ_prod]
  exact BI.Entails.refl _

/-- What the launch mints, device by device. -/
theorem mint : iprop(BI.own (ER (initOf cellsAll toksAll)) ∗ BI.own (ES (Release.initSlots (Finset.univ : Finset Key) 4)))
    ⊢ (|={Set.univ}=> bigSep Finset.univ (G X V) : sProp 𝕄) := by
  have hX (Φ : GSem nD τ sig → sProp 𝕄) : bigSep cellsAll Φ = bigSep Finset.univ fun c : Dev nD => bigSep Finset.univ fun k : CK => Φ (cell c k) := by
    unfold cellsAll; rw [bigSep_map, bigSep_univ_prod]; rfl
  have hT : bigSep toksAll (fun x => (dutyTok ER x.1 x.2.1 x.2.2 : sProp 𝕄)) = bigSep Finset.univ fun c : Dev nD => bigSep Finset.univ fun x => tok (F := F) c x := by
    unfold toksAll; rw [bigSep_map, bigSep_univ_prod]; rfl
  have hR : (bigSep (Finset.univ : Finset Key) fun x => (readerAt ES x 0 : sProp 𝕄))
      = bigSep Finset.univ fun c : Dev nD => bigSep (Finset.univ : Finset (Bool × Fin 3 × Fin 2)) fun x => readerAt ES (c, x) 0 := bigSep_univ_prod _
  iintro ⟨HX, HS⟩
  imod (Rounds.fund ER (Rd X V) cellsAll toksAll) $$ HX with ⟨Hst, Hr, Hat, Htok⟩
  imod (Release.slots_init ES (Finset.univ : Finset Key) 4 (keySlot (F := F))) $$ HS with ⟨%ν, -, #HI, Hrd, Hw⟩
  imodintro
  ihave Hst := (Entails.of_eq (hX fun g => roundState ER (Rd X V) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  ihave Hrd := (Entails.of_eq hR) $$ Hrd
  ihave Hw := (deal_writes (F := F)) $$ Hw
  have hν : (bigSep (Finset.univ : Finset Key) fun x => slotInv ES (ν x) x (keySlot (F := F) x))
      ⊢ bigSep (Finset.univ : Finset (Dev nD)) fun _ => (iprop(∃ ν : Key → ℕ, bigSep (Finset.univ : Finset Key) fun x => slotInv ES (ν x) x (keySlot (F := F) x)) : sProp 𝕄) :=
    (show (bigSep (Finset.univ : Finset Key) fun x => slotInv ES (ν x) x (keySlot (F := F) x))
      ⊢ (iprop(∃ ν : Key → ℕ, bigSep (Finset.univ : Finset Key) fun x => slotInv ES (ν x) x (keySlot (F := F) x)) : sProp 𝕄) by
      iintro H; iexists ν; iexact H).trans (BI.bigSep_of_persistent _ _)
  unfold G
  simp only [bigSep_sep']
  isplitl [Hst]; · iexact Hst
  isplitl [Hr]; · iexact Hr
  isplitl [Hat]; · iexact Hat
  isplitl [Htok]; · iexact Htok
  isplitl [Hw]; · iexact Hw
  isplitl [Hrd]; · iexact Hrd
  iapply hν; iexact HI

/-! ### The semaphores of a device -/

/-- The kernel's own semaphores: all but the barrier's. -/
abbrev Own : Type := {k : CK // k ≠ .bar}
abbrev osem (k : Own) : SemLoc sig := semOf k.1

theorem ownSemFacts : Pipeline.OwnSemFacts cfg0.spec osem := by decide +kernel

theorem unscoped_bar (c : Dev nD) : (unscopedSems0 c : sProp 𝕄) = semVal (cell c .bar) 0 := by
  unfold unscopedSems0; rw [bigSep_eq_bigSepL_of_eq [SemLoc.reg barS] (by decide +kernel) (by decide +kernel)]; rfl

theorem sems_all (c : Dev nD) :
    (bigSep Finset.univ fun k => (semVal (cell c k) 0 : sProp 𝕄))
      = iprop(unscopedSems0 c ∗ Pipeline.ownSems0 (Ix := ℕ) (Name := ℕ) (U := UU) (Lvl := ℕ) (Val := Elt F) (τ := τ) osem c) := by
  rw [bigSep_univ_at _ CK.bar, unscoped_bar]
  unfold Pipeline.ownSems0
  rw [← bigSep_subtype_ne CK.bar fun k => (semVal (cell c k) 0 : sProp 𝕄)]

/-! ### The invariants -/

/-- A device's cells under their invariants. -/
theorem core_alloc (c : Dev nD) :
    iprop(Pipeline.ownSems0 (Ix := ℕ) (Name := ℕ) (U := UU) (Lvl := ℕ) (Val := Elt F) (τ := τ) osem c ∗ unscopedSems0 c ∗ G X V c)
      ⊢ |={Set.univ}=> iprop((bigSep Finset.univ fun k => iprop(∃ κ : ℕ, cellInv ER (Rd X V) κ (cell c k)))
          ∗ (bigSep Finset.univ fun k => reached ER (cell c k) 0)
          ∗ Ghost (F := F) c ∗ ∃ ν : Key → ℕ, bigSep (Finset.univ : Finset Key) fun x => slotInv ES (ν x) x (keySlot (F := F) x)) := by
  unfold G
  iintro ⟨Hos, Hus, Hst, Hr, Hat, Htok, Hw, Hrd, Hν⟩
  imod (show iprop((bigSep Finset.univ fun k => semVal (cell c k) 0) ∗ bigSep Finset.univ fun k => roundState ER (Rd X V) (cell c k) 0)
      ⊢ (|={Set.univ}=> bigSep Finset.univ fun k => iprop(∃ κ : ℕ, cellInv ER (Rd X V) κ (cell c k)) : sProp 𝕄) from by
        rw [← bigSep_sep']
        exact (bigSep_mono fun k _ => (Rounds.body_intro ER (Rd X V) (cell c k)).trans inv_alloc).trans (bigSep_fupd _ _)) $$ [Hos Hus Hst] with Hinv
  · isplitr [Hst]; swap; · iexact Hst
    rw [sems_all]
    isplitl [Hus] <;> iassumption
  imodintro
  isplitl [Hinv]; · iexact Hinv
  isplitl [Hr]; · iexact Hr
  isplitr [Hν]; swap; · iexact Hν
  unfold Ghost
  ihave H := (deal_toks (F := F) c) $$ [Htok Hw]
  · isplitl [Htok] <;> iassumption
  icases H with ⟨He, Ho⟩
  isplitl [Hat]; · iexact Hat
  isplitl [Hrd]; · iexact Hrd
  isplitl [He] <;> iassumption

/-- What a device knows and has when the launch is done, but for the levels. -/
def G' (c : Dev nD) : sProp 𝕄 :=
  iprop(∃ (κ : Dev nD × CK → ℕ) (ν : Key → ℕ),
    ((bigSep (Finset.univ : Finset (Dev nD × CK)) fun p => cellInv ER (Rd X V) (κ p) (cell p.1 p.2))
      ∗ (bigSep (Finset.univ : Finset Key) fun x => slotInv ES (ν x) x (keySlot (F := F) x))
      ∗ (bigSep (Finset.univ : Finset (Dev nD × CK)) fun p => reached ER (cell p.1 p.2) 0))
    ∗ Ghost (F := F) c)

theorem regroup :
    (bigSep Finset.univ fun c : Dev nD => iprop((bigSep Finset.univ fun k => iprop(∃ κ : ℕ, cellInv ER (Rd X V) κ (cell c k)))
          ∗ (bigSep Finset.univ fun k => reached ER (cell c k) 0)
          ∗ Ghost (F := F) c ∗ ∃ ν : Key → ℕ, bigSep (Finset.univ : Finset Key) fun x => slotInv ES (ν x) x (keySlot (F := F) x)) : sProp 𝕄)
      ⊢ bigSep Finset.univ (G' X V) := by
  rw [bigSep_sep', bigSep_sep', ← bigSep_univ_prod (fun p : Dev nD × CK => iprop(∃ κ : ℕ, cellInv ER (Rd X V) κ (cell p.1 p.2))),
    ← bigSep_univ_prod (fun p : Dev nD × CK => (reached ER (cell p.1 p.2) 0 : sProp 𝕄))]
  iintro ⟨HI, #HR, HG⟩
  ihave HK := (BI.bigSep_exists_pi Finset.univ (fun (p : Dev nD × CK) (κ : ℕ) => (cellInv ER (Rd X V) κ (cell p.1 p.2) : sProp 𝕄))) $$ HI
  icases HK with ⟨%κ, #HI⟩
  iapply (bigSep_with_persistent (R := (iprop((bigSep (Finset.univ : Finset (Dev nD × CK)) fun p => cellInv ER (Rd X V) (κ p) (cell p.1 p.2))
      ∗ (bigSep (Finset.univ : Finset (Dev nD × CK)) fun p => reached ER (cell p.1 p.2) 0)) : sProp 𝕄))
    (Φ := fun c => iprop(Ghost (F := F) c ∗ ∃ ν : Key → ℕ, bigSep (Finset.univ : Finset Key) fun x => slotInv ES (ν x) x (keySlot (F := F) x)))
    fun c _ => by
      unfold G'
      iintro ⟨⟨HI, HR⟩, HG, ⟨%ν, HS⟩⟩
      iexists κ, ν
      isplitr [HG]; swap; · iexact HG
      isplitl [HI]; · iexact HI
      isplitl [HS]; · iexact HS
      iexact HR)
  isplitr
  · isplitl; · iexact HI
    iexact HR
  iexact HG

/-- The semaphores of all devices go under their invariants. -/
theorem glob : (bigSep Finset.univ fun c => iprop(Pipeline.ownSems0 (Ix := ℕ) (Name := ℕ) (U := UU) (Lvl := ℕ) (Val := Elt F) (τ := τ) osem c ∗ unscopedSems0 c ∗ G X V c) : sProp 𝕄)
    ⊢ |={Set.univ}=> bigSep Finset.univ (G' X V) :=
  ((bigSep_mono fun c _ => core_alloc X V c).trans (bigSep_fupd _ _)).trans (BI.fupd_mono (regroup X V))

/-! ### The credit of the launch -/

/-- What a device owes at the start. -/
abbrev O₀ (c : Dev nD) : CellTallies nD τ sig ℕ := Ov c 0

/-- What is owed to a device for a payment. -/
def owedTo (c : Dev nD) (e : Ev) : CellTallies nD τ sig ℕ := tallyAt (cell c e.ck) (ixE e) e.amt

theorem owed_around (e : Ev) : (∑ d : Dev nD, due d e) = ∑ d : Dev nD, owedTo d e := by
  unfold due owedTo
  exact Equiv.sum_comp (around e.dir) fun c => tallyAt (cell c e.ck) (ixE e) e.amt

theorem sum_evs {A : Type} [AddCommMonoid A] (f : Ev → A) : (∑ i ∈ Finset.Ico 0 89, f (evAt i)) = ∑ e, f e := by
  rw [← getD_all evs evs_length evs_nodup, Finset.sum_image (getD_inj evs evs_length evs_nodup)]; rfl

/-- The launch's credit of a device is what it has yet to collect. -/
theorem launch_creds (c : Dev nD) : (Pipeline.launchCred O₀ c : sProp 𝕄) ⊢ creds (F := F) c 0 := by
  have hs : (∑ d : Dev nD, O₀ d) = ∑ d : Dev nD, ∑ e : Ev, owedTo d e := by
    have h1 : ∀ d : Dev nD, O₀ d = ∑ e : Ev, due d e := fun d => sum_evs (due d)
    rw [Finset.sum_congr rfl fun d _ => h1 d, Finset.sum_comm, Finset.sum_congr rfl fun e _ => owed_around e, Finset.sum_comm]
  have hT : ∀ (d : Dev nD) (g : GSem nD τ sig), (∑ e : Ev, owedTo d e) g ≠ 0 → g.1 = (d.tc : Thread nD τ) := by
    intro d g hg
    rw [Finset.sum_apply] at hg
    obtain ⟨e, -, he⟩ := Finset.exists_ne_zero_of_sum_ne_zero hg
    by_contra hn
    refine he ?_
    unfold owedTo
    exact tallyAt_ne_cell (fun h => hn (congrArg Prod.fst h)) _ _
  have e1 : (Pipeline.launchCred O₀ c : sProp 𝕄) = cred (∑ e : Ev, owedTo c e) :=
    Pipeline.launchCred_of_sum O₀ (fun d => ∑ e : Ev, owedTo d e) hs hT c
  rw [e1]
  unfold creds
  rw [over_wts]
  rw [Pipeline.cred_finsetSum]
  exact bigSep_mono fun e _ => BI.Entails.refl _

end Cert.Proof

end
-- ==== Proof.TextEq.lean ====
module

public import proofs.«01_k».proof.Proof.Text
public import proofs.«01_k».proof.Proof.Gen.KernelIdeal.Points

@[expose] public section

noncomputable section

namespace Cert.Proof

open Cert.KernelIdeal Cert.KernelIdeal.Gen
open Idealize.ShloMosaic Idealize.ShloMosaic.TcCoe Idealize.SL.Sem

variable {F : FTy → Type} [FloatOps F]

set_option maxRecDepth 100000 in
set_option maxHeartbeats 0 in
theorem body_eq (t : Fin cfg0.N) :
    bodyAt0 (F := F) t = .op .deviceId fun d => text (nxT d) (xoT d) := by
  unfold bodyAt0
  rw [cc0_body_eq_skeleton]
  rfl

end Cert.Proof

end
-- ==== Proof.Run.lean ====
/-
  The run of the kernel's program on four devices, at any float values.
-/
module

public import proofs.«01_k».proof.Proof.Start
public import proofs.«01_k».proof.Proof.TextEq
public import proofs.«01_k».proof.Proof.Gen.KernelIdeal.Points
public import Idealize.ShloMosaic.Lib.Quiescent
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot)

variable {F : FTy → Type} [FloatOps F]

local notation "𝕄" => MT nD τ sig ℕ (Elt F) ℕ UU ℕ

variable (m : (ℓ : Loc nD τ sig) → Buf (Elt F) ℓ) (g : Dev nD → PrngReg)

/-- The memory at the start. -/
abbrev s₀ : MemSt nD τ sig (Elt F) := ⟨m, fun _ => 0, g⟩

/-- A device's columns of `x`, and its rows of `w`, as they are staged. -/
def Xm (c : Dev nD) : (cc0_stg0_0 : Ref sig .tc).ty.Contents (Elt F) := (win0_0.blk (0 : Fin 1)).view.read (Elt F) (m ((c : Thread nD τ).loc main_arg0))
def Vm (c : Dev nD) : (cc0_stg1_0 : Ref sig .tc).ty.Contents (Elt F) := (win0_1.blk (0 : Fin 1)).view.read (Elt F) (m ((c : Thread nD τ).loc main_arg1))

/-- What a device has before its body runs, but for the buffers of the call. -/
def startOf (c : Dev nD) : sProp 𝕄 :=
  iprop((∃ (κ : Dev nD × CK → ℕ) (ν : Key → ℕ), Ctx (Xm m) (Vm m) κ ν ∗ Ghost (F := F) c) ∗ creds (F := F) c 0 ∗ colsAny c)

/-- The call's buffers. -/
def bufs (c : Dev nD) : sProp 𝕄 := iprop((slBuf (F := F) c false ∗ slBuf c true) ∗ axBuf c ∗ yAny c)

/-- What the body leaves: the semaphores at zero, the call's buffers, the result. -/
def left (c : Dev nD) : sProp 𝕄 :=
  iprop((bigSep Finset.univ fun k => semVal (cell c k) 0) ∗ bufs (F := F) c ∗ ∃ r, ⌜Out (Xm m) (Vm m) c r⌝ ∗ oM.view.loc (c : Thread nD τ) ↦{fullShare} r)

/-- The staging's proof data. -/
def dats (_ : Fin 1) (c : Dev nD) : Pipeline.Dat τ (Elt F) ℕ ℕ UU ℕ cfg0 c where
  A w := m ((cfg0.win w).arr.view.loc (c : Thread nD τ))
  after w _ := match w with
    | ⟨0, _⟩ => Xm m c
    | ⟨1, _⟩ => Vm m c
  Φ t := match t with
    | ⟨0, _⟩ => iprop(startOf m c ∗ bufs c)
    | ⟨_ + 1, _⟩ => left m c
  q _ := fullShare
  owed t := match t with
    | ⟨0, _⟩ => Ov c 0
    | ⟨_ + 1, _⟩ => 0

/-- A staging buffer at the contents given. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

omit [FloatOps F] in
theorem owns_stg (c : Dev nD) (b : Ref sig .tc) (Y : b.ty.Contents (Elt F)) :
    (owns (Ix := ℕ) (Name := ℕ) (U := UU) (Lvl := ℕ) (c : Thread nD τ) (Memref.whole b) fullShare Y : sProp 𝕄) = stg c b Y := by
  unfold owns; simp only [Memref.view_whole, View.read_whole, View.set_whole]

/-- The body's precondition and postcondition, spelled out. -/
def bodyPre (c : Dev nD) : sProp 𝕄 :=
  iprop((startOf m c ∗ bufs c) ∗ (dats m 0 c).owesAt 0 (t0_0 : Fin cfg0.N).castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(left m c ∗ (dats m 0 c).owesAt 0 (t0_0 : Fin cfg0.N).succ ∗ stg c cc0_stg0_0 (Xm m c) ∗ stg c cc0_stg1_0 (Vm m c))

/-- A program may end with an update. -/
theorem Wp_end (c : Dev nD) (p : Pr F) (Q : PUnit → sProp 𝕄) : Wp c p (fun a => iprop(|={Set.univ}=> Q a)) ⊢ Wp c p Q := wp_fupd _ _ _ _ _

/-- A program may ask for its device. -/
theorem Wp_id (c : Dev nD) (p : Dev nD → Pr F) (Q : PUnit → sProp 𝕄) : Wp c (.op .deviceId p) Q = Wp c (p c) Q := by
  unfold Wp; rw [wp_deviceId]

theorem text_run (c : Dev nD) : bodyPre m c ⊢ Wp c (text (nx c) (xoT c)) (fun _ => iprop(|={Set.univ}=> bodyPost m c)) := by
  unfold bodyPre startOf bufs Pipeline.Dat.owesAt Pipeline.owesWithin
  rw [show (dats m 0 c).owed (t0_0 : Fin cfg0.N).castSucc = Ov c 0 from rfl]
  iintro ⟨⟨⟨⟨%κ, %ν, #HC, HG⟩, Hcr, Hcol⟩, HB, HX, Hy⟩, ⟨%W, -, HO⟩, ⟨%d0, %f0, %h0, Hx⟩, ⟨%d1, %f1, %h1, Hw⟩⟩
  have e0 : f0 = Xm m c := by rw [h0]; unfold Pipeline.Dat.before; rw [if_pos (fetch0_0 t0_0)]; rfl
  have e1 : f1 = Vm m c := by rw [h1]; unfold Pipeline.Dat.before; rw [if_pos (fetch0_1 t0_0)]; rfl
  subst e0 e1
  ihave HP := (begin_all (Xm m) (Vm m) κ ν c) $$ [HG Hcr HO HB HX Hy Hcol]
  · isplitr; · iexact HC
    isplitl [HG]; · iexact HG
    isplitl [Hcr]; · iexact Hcr
    isplitl [HO]; · iexists W; iexact HO
    isplitl [HB]; · iexact HB
    isplitl [HX]; · iexact HX
    isplitl [Hy] <;> iassumption
  iapply (text_spec (Xm m) (Vm m) κ ν c _) $$ [Hx Hw HP]
  · isplitr; · iexact HC
    isplitr [HP]; swap; · iexact HP
    unfold xw
    isplitl [Hx] <;> iassumption
  iintro ⟨Hxw, HP⟩
  imod (finish (Xm m) (Vm m) κ ν c) $$ [HP] with ⟨⟨%W', HO⟩, HL⟩
  · isplitr; · iexact HC
    iexact HP
  imodintro
  unfold Left
  icases HL with ⟨Hs, HB, HX, Hy, Hd⟩
  ihave Hr := (cols_to (Xm m) (Vm m) c (m ((c : Thread nD τ).loc main_v1))) $$ Hd
  unfold bodyPost left bufs Pipeline.Dat.owesAt Pipeline.owesWithin xw
  rw [show (dats m 0 c).owed (t0_0 : Fin cfg0.N).succ = 0 from rfl]
  icases Hxw with ⟨Hx, Hw⟩
  isplitl [Hs HB HX Hy Hr]
  · isplitl [Hs]; · iexact Hs
    isplitr [Hr]; swap; · iexact Hr
    isplitl [HB]; · iexact HB
    isplitl [HX] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 20000 in
theorem body_run (c : Dev nD) : bodyPre m c ⊢ Wp c (bodyAt0 (F := F) t0_0) (fun _ => bodyPost m c) := by
  rw [body_eq, Wp_id, nxT_eq]
  exact (text_run m c).trans (Wp_end c (text (nx c) (xoT c)) fun _ => bodyPost m c)

theorem body_at (t : Fin cfg0.N) : defs₀ (F := F) Proc.tc 0 (t, cfg0.slots t) = bodyAt0 (F := F) t := rfl

/-- The library's body obligation. -/
theorem body_obligation (c : Dev nD) : Pipeline.BodyObligation (dats (F := F) m 0 c) (defs₀ (F := F)) 𝒱₀ 0 Set.univ := fun t => by
  rw [fin_N0 t]
  rw [bigSep_W0, bigSep_W0]
  simp only [owns_stg]
  rw [body_at]
  have a : (dats m 0 c).Φ (t0_0 : Fin cfg0.N).succ = left m c := rfl
  have b : (dats m 0 c).Φ (t0_0 : Fin cfg0.N).castSucc = iprop(startOf m c ∗ bufs c) := rfl
  rw [a, b]
  have e1 : bodyPre m c = iprop((startOf m c ∗ bufs c) ∗ (dats m 0 c).owesAt 0 (t0_0 : Fin cfg0.N).castSucc ∗ (∃ d, stg c cc0_stg0_0 ((dats m 0 c).before 0 t0_0 d)) ∗ ∃ d, stg c cc0_stg1_0 ((dats m 0 c).before 1 t0_0 d)) := rfl
  have e2 : bodyPost m c = iprop(left m c ∗ (dats m 0 c).owesAt 0 (t0_0 : Fin cfg0.N).succ ∗ (stg c cc0_stg0_0 ((dats m 0 c).after 0 t0_0)) ∗ stg c cc0_stg1_0 ((dats m 0 c).after 1 t0_0)) := rfl
  have h := body_run m c
  rw [e1, e2] at h
  convert h using 2

/-! ### The launch -/

/-- The launch's element. -/
def u₀ : UU :=
  (initOf (Pipeline.cells cfgs cellOf_inj) (Pipeline.launchToks cfgs cellOf_inj), (initOf cellsAll toksAll, Release.initSlots (Finset.univ : Finset Key) 4))

theorem fund : (ownU (u₀ : UU) : sProp 𝕄)
    ⊢ |={Set.univ}=> iprop(BI.own (EP (initOf (Pipeline.cells cfgs cellOf_inj) (Pipeline.launchToks cfgs cellOf_inj))) ∗ bigSep Finset.univ (G (Xm m) (Vm m))) := by
  have hm := mint (Xm m) (Vm m)
  unfold ER ES at hm
  unfold u₀
  iintro Hu
  ihave H := (ownU_pair _ _) $$ Hu
  icases H with ⟨HP, HX⟩
  ihave HX := (own_pair_emb embR _ _) $$ HX
  imod hm $$ HX with HG
  imodintro
  isplitl [HP] <;> iassumption

theorem start_intro (c : Dev nD) :
    iprop(Pipeline.unscopedRestP Pipeline.Prefetch.none cfg0.spec c (fun b => m ((c : Thread nD τ).loc b)) ∗ levAts Lset lvl
        ∗ Pipeline.launchCred O₀ c ∗ prngReg c (g c) ∗ G' (Xm m) (Vm m) c)
      ⊢ |={Set.univ}=> iprop(startOf m c ∗ emp) := by
  rw [Pipeline.unscopedRestP_none, unscopedRest0_eq]
  iintro ⟨Hr, #HL, Hcr, -, HG⟩
  unfold G'
  icases HG with ⟨%κ, %ν, ⟨HI, HS, HR⟩, HG⟩
  ihave Hc := (launch_creds (F := F) c) $$ Hcr
  ihave Hcol := (cols_of (F := F) c) $$ [Hr]
  · iexists _; iexact Hr
  imodintro
  unfold startOf Ctx
  isplitl; swap; · iempintro
  isplitr [Hc Hcol]; swap
  · isplitl [Hc] <;> iassumption
  iexists κ, ν
  isplitr [HG]; swap; · iexact HG
  isplitl [HI]; · iexact HI
  isplitl [HS]; · iexact HS
  isplitl [HR]; · iexact HR
  iexact HL

theorem phi_intro (c : Dev nD) :
    iprop(startOf m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(startOf m c ∗ bufs c) from rfl, scopedRest0_eq]
  unfold bufs
  iintro ⟨Hs, -, H0, H1, H2, H7⟩
  isplitl [Hs]; · iexact Hs
  isplitl [H0 H1]
  · isplitl [H0]
    · iapply (slBuf_of (F := F) c false); iexact H0
    · iapply (slBuf_of (F := F) c true); iexact H1
  isplitl [H7]; · iapply (axBuf_of (F := F) c); iexact H7
  unfold yAny; iexact H2

/-- What a device shows at the end: its barrier at zero, and its result. -/
def shown (c : Dev nD) : sProp 𝕄 :=
  iprop(unscopedSems0 c ∗ ∃ r, ⌜Out (Xm m) (Vm m) c r⌝ ∗ oM.view.loc (c : Thread nD τ) ↦{fullShare} r)

theorem phi_exit (c : Dev nD) :
    (dats m 0 c).Φ (Fin.last cfg0.N) ⊢ iprop(shown m c ∗ Pipeline.ownSems0 osem c ∗ Pipeline.scopedRest cfg0.spec c) := by
  rw [show (dats m 0 c).Φ (Fin.last cfg0.N) = left m c from rfl, scopedRest0_eq]
  unfold left bufs shown
  rw [sems_all]
  iintro ⟨⟨Hu, Ho⟩, ⟨⟨B0, B1⟩, HX, Hy⟩, Hr⟩
  isplitl [Hu Hr]
  · isplitl [Hu] <;> iassumption
  isplitl [Ho]; · iexact Ho
  isplitl [B0]; · iapply (slBuf_to (F := F) c false); iexact B0
  isplitl [B1]; · iapply (slBuf_to (F := F) c true); iexact B1
  isplitl [Hy]; · unfold yAny; iexact Hy
  iapply (axBuf_to (F := F) c); iexact HX

theorem waits (c : Dev nD) : (levAts Lset lvl : sProp 𝕄) ⊢ Pipeline.cellsWaits cfgs (dats m) 0 0 c :=
  Pipeline.cellsWaits_intro cfgs (dats m) 0 0 c fun w s t => by
    rcases t with ⟨_ | _, ht⟩
    · exact mayOwe c _ (i := 0) (n := 0) (by decide) (by decide)
    · have h := mayOwe (F := F) c (.dma (((cfgs 0).win w).sem s)) (i := 0) (n := 89) (by decide) (by decide)
      rw [Ov_end] at h
      exact h

theorem share_eq (c : Dev nD) (w : Fin cfg0.W) : (dats m 0 c).share w = fullShare := by unfold Pipeline.Dat.share; split <;> rfl

/-- What is read off the memory at the end of a device's run. -/
theorem read_shown (c : Dev nD) (s : Phys nD τ sig (Elt F)) :
    iprop(shown m c ∗ SI s) ⊢ (|={Set.univ}=> (⌜(∀ sm : SemLoc sig, sm.isScoped .tc = false → s.mem.sem ((c.tc : Thread nD τ), sm) = 0)
      ∧ Out (Xm m) (Vm m) c (s.mem.mem (oM.view.loc (c : Thread nD τ)))⌝ ∗ SI s) : sProp 𝕄) := by
  unfold shown
  iintro ⟨⟨Hu, ⟨%r, %hr, Hr⟩⟩, HSI⟩
  icombine HSI Hr gives %h
  imod (Pipeline.unscopedSems0_read (X := unscopedSems0 c) (c := c) fupd_intro s) $$ [Hu HSI] with ⟨%hs, HSI⟩
  · isplitl [Hu] <;> iassumption
  imodintro
  isplitr
  · ipureintro
    refine ⟨hs, ?_⟩
    rw [show s.mem.mem (oM.view.loc (c : Thread nD τ)) = r from Buf.eq_of_forall_mem_univ h]
    exact hr
  iexact HSI

/-- What every final state has: both arguments as they were, the result computed, the semaphores at zero. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ Out (Xm m) (Vm m) c (r.2.mem (oM.view.loc (c : Thread nD τ))))
  ∧ r.2.sem = fun _ => 0

set_option maxRecDepth 8000 in
/-- At any float values, from any memory with zero counters, every weakly fair execution of the program on four devices
    terminates, and every final state has the arguments unchanged, each device's result computed and every semaphore at zero. -/
theorem run_main : θ_run defs (onTc (τ := τ) (main (F := F))) (s₀ m g) (Ends m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m g main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := Lset) (lv := lvl) (hL := Lset_of_ne) (hwaits := waits m)
    (G := G (Xm m) (Vm m)) (G' := G' (Xm m) (Vm m)) (u₀ := u₀)
    (hu₀ := fund m)
    (hglob := glob (Xm m) (Vm m))
    (hA := fun _ _ => rfl) (hpf := fun _ k => k.elim0)
    (X := startOf m) (Y := shown m) (Z := fun _ => iprop(emp))
    (hX := start_intro m g) (hin := phi_intro m) (hout := phi_exit m)
    (QY := fun c s => (∀ sm : SemLoc sig, sm.isScoped .tc = false → s.sem ((c.tc : Thread nD τ), sm) = 0)
      ∧ Out (Xm m) (Vm m) c (s.mem (oM.view.loc (c : Thread nD τ))))
    (hY := fun c s' => by
      iintro ⟨Hu, -, HSI⟩
      iapply (read_shown m c s')
      isplitl [Hu] <;> iassumption)
    (hQ := fun s h hs => ⟨fun c => ⟨((h c).1 0).trans ((dats m 0 c).arrAt_in (0 : Fin 2) rfl _), ((h c).1 1).trans ((dats m 0 c).arrAt_in (1 : Fin 2) rfl _), (h c).2.2.2⟩,
      sem_eq_zero hs fun c => (h c).2.2.1⟩)

/-- The frame: both arguments end unchanged, every semaphore at zero. -/
theorem frame_any : θ_run defs (onTc (τ := τ) (main (F := F))) (s₀ m g) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_main m g)

end Cert.Proof

end
-- ==== Proof.Same.lean ====
/-
  The kernel printed for machine floats and the kernel printed for the extended reals are one text: their bodies and
  their body tables are equal at every float type, so a run of one is a run of the other.
-/
module

public import proofs.«01_k».proof.Proof.Run
public import proofs.«01_k».proof.Defs
public import proofs.«01_k».proof.Proof.Gen.Kernel

@[expose] public section

noncomputable section

namespace Cert.Proof

open Idealize.ShloMosaic Idealize.ShloMosaic.TcCoe Idealize.SL.Sem

variable {F : FTy → Type} [FloatOps F]

set_option maxRecDepth 100000 in
set_option maxHeartbeats 0 in
set_option backward.isDefEq.respectTransparency.types false in
/-- The two prints of the kernel's body are one. -/
theorem same_body : @Cert.Kernel.cc0_body F _ _ = @Cert.KernelIdeal.cc0_body F _ _ := rfl

set_option maxRecDepth 100000 in
set_option maxHeartbeats 0 in
set_option backward.isDefEq.respectTransparency.types false in
/-- The two tables of kernel bodies are one. -/
theorem same_table : Cert.Kernel.defs₀ (F := F) = Cert.KernelIdeal.defs₀ (F := F) := by
  unfold Cert.Kernel.defs₀ Cert.KernelIdeal.defs₀
  rw [same_body]
  refine congrArg (Defs.onTc (Λ := Cert.KernelIdeal.Λ₀)) ?_
  funext l a
  match l, a with
  | ⟨0, _⟩, (t, s) => rfl
  | ⟨_ + 1, h⟩, _ => exact absurd h (Nat.not_lt.2 (Nat.le_add_left _ _))

set_option maxRecDepth 100000 in
set_option maxHeartbeats 0 in
set_option backward.isDefEq.respectTransparency.types false in
/-- The two body tables, with the pallas_call's region, are one. -/
theorem same_defs : Cert.Kernel.defs (F := F) = Cert.KernelIdeal.defs (F := F) := by
  unfold Cert.Kernel.defs Cert.KernelIdeal.defs
  exact congrArg (Pipeline.defs (Cert.KernelIdeal.pcfgs (F := F))) same_table

set_option backward.isDefEq.respectTransparency.types false in
/-- The two mains are one. -/
theorem same_main : Cert.Kernel.main (F := F) = Cert.KernelIdeal.main (F := F) := rfl

set_option maxRecDepth 100000 in
set_option maxHeartbeats 0 in
set_option backward.isDefEq.respectTransparency.types false in
/-- The frame of the kernel as printed for machine floats: it is the frame of the one text. -/
theorem frame_bits : Cert.quiescent_Kernel := fun m g _ => by
  have h := frame_any (F := Bits) m g
  rw [← same_defs, ← same_main] at h
  exact h

end Cert.Proof

end
-- ==== Proof.Sums.lean ====
/-
  Over the extended reals a lane of the ring's sum is, element by element, the product of the whole matrices: each
  device's block product is the part of the product's sum that runs over its columns, and a ring visits every device once.
-/
module

public import proofs.«01_k».proof.Proof.Tiles
public import Idealize.ShloMosaic.Lib.MatmulPlain
public import Idealize.ShloMosaic.Lib.Layout
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.ValueIdx
open scoped BigOperators

/-! ### The rows that a device multiplies -/

/-- Whose rows device `c` multiplies at place `j` of a ring's order: the device that is `3 - j` steps ahead. -/
def rowAt (c : Dev nD) (ρ : Bool) : Fin 4 → Dev nD
  | 0 => nx (nx (nx c ρ) ρ) ρ
  | 1 => nx (nx c ρ) ρ
  | 2 => nx c ρ
  | 3 => c

set_option maxRecDepth 100000 in
/-- The printed offsets are those rows'. -/
theorem xo_row : ∀ (c : Dev nD) (ρ : Bool) (j : Fin 4),
    (xoT c ρ j).1 0 = (rowAt c ρ j).val * 1024 ∧ (xoT c ρ j).1 1 = 0 := by
  decide +kernel

/-! ### One block's product -/

/-- A block's product at an element. -/
theorem part_apply (xs ws : Vec Ideal S1024x1024 .bf16) (i n : Fin 1024) :
    part xs ws (ix2 i n) = ∑ q : Fin 1024, (xs (ix2 i q) : EReal) * ws (ix2 q n) := by
  unfold part
  rw [shapeCast_self, shapeCast_self]
  refine (Ideal.matmul_plain_apply (M := 1024) (K := 1024) (N := 1024) (φ₁ := .bf16) (φ₂ := .bf16) none xs ws (constant S1024x1024 .f32 0x00000000#32) i n).trans ?_
  show Ideal.ofBits .f32 0x00000000#32 + _ = _
  rw [Ideal.ofBits_zero_f32, zero_add]

section

variable (X : Dev nD → (cc0_stg0_0 : Ref sig .tc).ty.Contents (Elt Ideal)) (V : Dev nD → (cc0_stg1_0 : Ref sig .tc).ty.Contents (Elt Ideal))

/-- A row of a row block. -/
def gRow (d : Fin 4) (i : Fin 1024) : Fin 4096 := ⟨d.val * 1024 + i.val, by omega⟩
/-- A column of a tile. -/
def gCol (t : Fin 8) (n : Fin 1024) : Fin 8192 := ⟨t.val * 1024 + n.val, by omega⟩
/-- A column of a lane, in its tile. -/
def lCol (s : Fin 2) (n : Fin 512) : Fin 1024 := ⟨s.val * 512 + n.val, by omega⟩

/-- Device `d`'s part of the product at a row and a column of the whole. -/
def share (d : Dev nD) (r : Fin 4096) (n : Fin 8192) : EReal :=
  ∑ q : Fin 1024, (show EReal from X d (ix2 (n0 := 4096) (n1 := 1024) r q)) * (show EReal from V d (ix2 (n0 := 1024) (n1 := 8192) q n))

/-- Device `c`'s product for a round, at an element. -/
theorem P_apply (c : Dev nD) (ρ : Bool) (k j : Fin 4) (i n : Fin 1024) :
    P X V c ρ k j (ix2 i n) = share X V c (gRow (rowAt c ρ j) i) (gCol (tileOf ρ k) n) := by
  unfold P share
  rw [part_apply]
  refine Finset.sum_congr rfl fun q _ => ?_
  have hx : (Rect.unit (s := S4096x1024) (xoT c ρ j).1 S1024x1024.size (xoT c ρ j).2).emb (ix2 (n0 := 1024) (n1 := 1024) i q)
      = ix2 (n0 := 4096) (n1 := 1024) (gRow (rowAt c ρ j) i) q := by
    have h := xo_row c ρ j
    funext a; apply Fin.ext
    match a with
    | ⟨0, _⟩ => show (xoT c ρ j).1 0 + 1 * i.val = (rowAt c ρ j).val * 1024 + i.val; omega
    | ⟨1, _⟩ => show (xoT c ρ j).1 1 + 1 * q.val = q.val; omega
  have hw : (tileRect (tileOf ρ k)).emb (ix2 (n0 := 1024) (n1 := 1024) q n)
      = ix2 (n0 := 1024) (n1 := 8192) q (gCol (tileOf ρ k) n) := by
    funext a; apply Fin.ext
    match a with
    | ⟨0, _⟩ => show 0 + 1 * q.val = q.val; omega
    | ⟨1, _⟩ => show (tileOf ρ k).val * 1024 + 1 * n.val = (tileOf ρ k).val * 1024 + n.val; omega
  exact congr (congrArg _ (congrArg (X c) hx)) (congrArg (V c) hw)

/-! ### The sum around a ring -/

/-- A lane of a tile at an element. -/
theorem laneOf_apply (s : Fin 2) (v : FVec Ideal S1024x1024 .bf16) (i : Fin 1024) (n : Fin 512) :
    laneOf s v (ix2 (n0 := 1024) (n1 := 512) i n) = v (ix2 i (lCol s n)) := by
  unfold laneOf
  refine extractStridedSlice_apply _ v _ _ _ fun a => ?_
  match a with
  | ⟨0, _⟩ => show i.val = 0 + i.val; omega
  | ⟨1, _⟩ => rfl

/-- A lane put into a slot and taken out again. -/
theorem ofSlot_toSlot {F : FTy → Type} [FloatOps F] (v : FVec F S1024x512 .bf16) : ofSlot (toSlot v) = v := by
  unfold ofSlot toSlot
  exact shapeCast_shapeCast v _ _

/-- What a device sends first, at an element. -/
theorem outgo_zero (ρ : Bool) (k : Fin 4) (s : Fin 2) (c : Dev nD) (j : S1024x512.Idx) :
    ofSlot (outgo X V ρ k s 0 c) j = laneOf s (P X V c ρ k 0) j := by
  show ofSlot (toSlot _) j = _
  rw [ofSlot_toSlot]

/-- What a device sends later, at an element. -/
theorem outgo_succ (ρ : Bool) (k : Fin 4) (s : Fin 2) (h : ℕ) (c : Dev nD) (j : S1024x512.Idx) :
    (ofSlot (outgo X V ρ k s (h + 1) c) j : EReal)
      = ofSlot (outgo X V ρ k s h (nx c (!ρ))) j + laneOf s (P X V c ρ k (Fin.ofNat 4 (h + 1))) j := by
  show ofSlot (fwd s _ _) j = _
  unfold fwd
  rw [ofSlot_toSlot]
  rfl

/-- A sum over the devices, in the order in which a ring meets them. -/
theorem sum_ring (f : Dev nD → EReal) : ∀ (c : Dev nD) (ρ : Bool),
    f (nx (nx (nx c (!ρ)) (!ρ)) (!ρ)) + f (nx (nx c (!ρ)) (!ρ)) + f (nx c (!ρ)) + f c = ∑ d : Fin 4, f d := by
  intro c ρ
  rw [Fin.sum_univ_four]
  fin_cases c <;> cases ρ
  · show f 1 + f 2 + f 3 + f 0 = f 0 + f 1 + f 2 + f 3; abel
  · show f 3 + f 2 + f 1 + f 0 = f 0 + f 1 + f 2 + f 3; abel
  · show f 2 + f 3 + f 0 + f 1 = f 0 + f 1 + f 2 + f 3; abel
  · show f 0 + f 3 + f 2 + f 1 = f 0 + f 1 + f 2 + f 3; abel
  · show f 3 + f 0 + f 1 + f 2 = f 0 + f 1 + f 2 + f 3; abel
  · show f 1 + f 0 + f 3 + f 2 = f 0 + f 1 + f 2 + f 3; abel
  · show f 0 + f 1 + f 2 + f 3 = f 0 + f 1 + f 2 + f 3; abel
  · show f 2 + f 1 + f 0 + f 3 = f 0 + f 1 + f 2 + f 3; abel

/-- The rows that the partials of a lane's sum belong to are the last device's own. -/
theorem row_three : ∀ (c : Dev nD) (ρ : Bool), rowAt (nx (nx (nx c (!ρ)) (!ρ)) (!ρ)) ρ 0 = c := by decide
@[inherit_doc row_three] theorem row_two : ∀ (c : Dev nD) (ρ : Bool), rowAt (nx (nx c (!ρ)) (!ρ)) ρ (Fin.ofNat 4 (0 + 1)) = c := by decide
@[inherit_doc row_three] theorem row_one : ∀ (c : Dev nD) (ρ : Bool), rowAt (nx c (!ρ)) ρ (Fin.ofNat 4 (1 + 1)) = c := by decide

/-- A lane's sum at an element is the sum of the devices' parts of the product there. -/
theorem yv_apply (c : Dev nD) (ρ : Bool) (k : Fin 4) (s : Fin 2) (i : Fin 1024) (n : Fin 512) :
    (yv X V c ρ k s (ix2 (n0 := 1024) (n1 := 512) i n) : EReal) = ∑ d : Fin 4, share X V d (gRow c i) (gCol (tileOf ρ k) (lCol s n)) := by
  have e : (yv X V c ρ k s (ix2 (n0 := 1024) (n1 := 512) i n) : EReal)
      = ofSlot (outgo X V ρ k s 2 (nx c (!ρ))) (ix2 (n0 := 1024) (n1 := 512) i n) + laneOf s (P X V c ρ k 3) (ix2 (n0 := 1024) (n1 := 512) i n) := rfl
  rw [e, outgo_succ, outgo_succ, outgo_zero]
  simp only [laneOf_apply]
  rw [P_apply, P_apply, P_apply, P_apply, ← sum_ring (fun d => share X V d (gRow c i) (gCol (tileOf ρ k) (lCol s n))) c ρ]
  have e0 : rowAt (nx (nx (nx c (!ρ)) (!ρ)) (!ρ)) ρ 0 = c := row_three c ρ
  have e1 : rowAt (nx (nx c (!ρ)) (!ρ)) ρ (Fin.ofNat 4 (0 + 1)) = c := row_two c ρ
  have e2 : rowAt (nx c (!ρ)) ρ (Fin.ofNat 4 (1 + 1)) = c := row_one c ρ
  rw [e0, e1, e2]
  rfl

end

/-! ### The product of the whole matrices -/

/-- The product of the whole matrices at an element. -/
def whole (A : (⟨2, ![4096, 4096]⟩ : Shape).Idx → EReal) (B : (⟨2, ![4096, 8192]⟩ : Shape).Idx → EReal) (r : Fin 4096) (n : Fin 8192) : EReal :=
  ∑ q : Fin 4096, A (ix2 r q) * B (ix2 q n)

/-- The devices' parts make the product of the whole matrices. -/
theorem sum_share (A : (⟨2, ![4096, 4096]⟩ : Shape).Idx → EReal) (B : (⟨2, ![4096, 8192]⟩ : Shape).Idx → EReal)
    (X : Dev nD → (cc0_stg0_0 : Ref sig .tc).ty.Contents (Elt Ideal)) (V : Dev nD → (cc0_stg1_0 : Ref sig .tc).ty.Contents (Elt Ideal))
    (hX : ∀ c : Dev nD, X c = Layout.block ⟨2, ![4096, 1024]⟩ ⟨2, ![4096, 4096]⟩ 1 4 c A)
    (hV : ∀ c : Dev nD, V c = Layout.block ⟨2, ![1024, 8192]⟩ ⟨2, ![4096, 8192]⟩ 0 4 c B) (r : Fin 4096) (n : Fin 8192) :
    ∑ d : Fin 4, share X V d r n = whole A B r n := by
  have e : whole A B r n = ∑ p : Fin 4 × Fin 1024, A (ix2 r (gRow p.1 p.2)) * B (ix2 (gRow p.1 p.2) n) := by
    unfold whole
    rw [← Equiv.sum_comp (finProdFinEquiv (m := 4) (n := 1024))]
    refine Finset.sum_congr rfl fun p _ => ?_
    have h : finProdFinEquiv (m := 4) (n := 1024) p = gRow p.1 p.2 := Fin.ext (show p.2.val + 1024 * p.1.val = p.1.val * 1024 + p.2.val by omega)
    rw [h]
  rw [e, Fintype.sum_prod_type]
  refine Finset.sum_congr rfl fun d _ => ?_
  unfold share
  refine Finset.sum_congr rfl fun q _ => ?_
  rw [hX, hV]
  refine congr (congrArg _ (congrArg A ?_)) (congrArg B ?_)
  · funext a; apply Fin.ext
    match a with
    | ⟨0, _⟩ => rfl
    | ⟨1, _⟩ => rfl
  · funext a; apply Fin.ext
    match a with
    | ⟨0, _⟩ => rfl
    | ⟨1, _⟩ => rfl

end Cert.Proof

end
-- ==== Proof.Maxima.lean ====
/-
  Over the extended reals: a maximum over a whole array is the least bound of its elements, so the maximum the devices
  agree on is the largest size of an element of the whole product.
-/
module

public import proofs.«01_k».proof.Proof.Sums
public import Idealize.ShloMosaic.PureOps.Ideal.Laws

@[expose] public section

noncomputable section

namespace Cert.Proof

open Cert.KernelIdeal Cert.KernelIdeal.Gen
open Idealize.ShloMosaic Idealize.ShloMosaic.TcCoe Idealize.ShloMosaic.ValueIdx
open scoped BigOperators

/-- The pattern of minus infinity denotes the least extended real. -/
theorem ofBits_bot : Ideal.ofBits .f32 0xFF800000#32 = ⊥ := by simp [Ideal.ofBits, Ideal.ieee]

/-- A maximum over a whole array is bounded exactly when every element is. -/
theorem total_le {s t t' u : Shape} {axes : List (Fin s.rank)} (x : u.Idx → EReal) (hc : u.ShapeCasts s) (h : s.Reduces axes t)
    (ht : ∀ b, t.size b = 1) (hφ : FKind.Formats .f32) (hacc : 0xFF800000#32 = FKind.maximumf.neutral .f32 hφ) (h' : t.ShapeCasts t')
    (pos : Fin t'.rank → ℕ) (hp : ∀ a, pos a < t'.size a) (z : EReal) :
    (extractAt pos (shapeCast t' (multiReduction .maximumf axes t (shapeCast s x hc : FVec Ideal s .f32) 0xFF800000#32 h hφ hacc : FVec Ideal t .f32) h' : FVec Ideal t' .f32) hp : EReal) ≤ z
      ↔ ∀ i, x i ≤ z := by
  have e : (extractAt pos (shapeCast t' (multiReduction .maximumf axes t (shapeCast s x hc : FVec Ideal s .f32) 0xFF800000#32 h hφ hacc : FVec Ideal t .f32) h' : FVec Ideal t' .f32) hp : EReal)
      = Finset.univ.fold max (Ideal.ofBits .f32 0xFF800000#32) (fun i => x (Shape.reshapeEquiv hc i)) := by
    show multiReduction .maximumf axes t (shapeCast s x hc : FVec Ideal s .f32) 0xFF800000#32 h hφ hacc _ = _
    rw [multiReduction_maximumf_eq_fold, Finset.filter_true_of_mem fun i _ => funext fun b => Fin.ext (by
      have := (h.drop i b).isLt; have := (Shape.reshapeEquiv h' (fun a => ⟨pos a, hp a⟩) b).isLt; have := ht b; omega)]
    rfl
  rw [e, Finset.fold_max_le, ofBits_bot]
  constructor
  · intro hh i
    have := hh.2 ((Shape.reshapeEquiv hc).symm i) (Finset.mem_univ _)
    rwa [Equiv.apply_symm_apply] at this
  · exact fun hh => ⟨bot_le, fun i _ => hh _⟩

/-- The size of an extended real. -/
def size (y : EReal) : EReal := max y (-y)

/-- A size is not negative. -/
theorem size_nonneg (y : EReal) : 0 ≤ size y := by
  rcases le_total 0 y with h | h
  · exact le_max_of_le_left h
  · exact le_max_of_le_right (EReal.neg_nonneg.mpr h)

/-- A running maximum is bounded when the one before and the lane's sizes are. -/
theorem amax_le (am : EReal) (y : S1024x512.Idx → EReal) (z : EReal) :
    (amax (F := Ideal) am y : EReal) ≤ z ↔ am ≤ z ∧ ∀ i, size (y i) ≤ z := by
  unfold amax
  rw [Ideal.scalar_maximumf_def]
  refine max_le_iff.trans (and_congr Iff.rfl ?_)
  exact total_le (fun i => size (y i)) _ _ (by decide) _ _ _ _ _ z

/-- A slot of the exchange has elements. -/
theorem zero_lt_slot : ∀ a, 0 < S8x128.size a := by decide

/-- The maximum over the devices is bounded when the four maxima that it is made of are. -/
theorem gmax_le (a b c d z : EReal) :
    (gmax (F := Ideal) (spread a) (toAx (F := Ideal) (axMax (F := Ideal) (spread b) (toAx (F := Ideal) (spread c)))) (toAx (F := Ideal) (spread d)) : EReal) ≤ z ↔ a ≤ z ∧ b ≤ z ∧ c ≤ z ∧ d ≤ z := by
  unfold gmax
  refine (total_le (fun i => max (max c b) (max d a)) _ _ (by decide) _ _ _ _ _ z).trans ?_
  constructor
  · intro h
    have := h (fun _ => ⟨0, zero_lt_slot _⟩)
    simp only [max_le_iff] at this
    tauto
  · rintro ⟨h1, h2, h3, h4⟩ _
    simp only [max_le_iff]
    tauto

/-! ### The maximum of the whole product -/

section

variable (X : Dev nD → (cc0_stg0_0 : Ref sig .tc).ty.Contents (Elt Ideal)) (V : Dev nD → (cc0_stg1_0 : Ref sig .tc).ty.Contents (Elt Ideal))

/-- A device's running maximum is bounded when 0 and the sizes in the lanes so far are. -/
theorem amN_le (c : Dev nD) (z : EReal) (n : ℕ) : (amN X V c n : EReal) ≤ z
    ↔ 0 ≤ z ∧ ∀ m < n, ∀ i, size (yv X V c (m % 2 == 1) (Fin.ofNat 4 (m / 4)) (Fin.ofNat 2 (m / 2)) i) ≤ z := by
  induction n with
  | zero =>
    show Ideal.ofBits .f32 0x00000000#32 ≤ z ↔ _
    rw [Ideal.ofBits_zero_f32]
    simp
  | succ n ih =>
    refine (amax_le _ _ z).trans ?_
    rw [ih, and_assoc]
    refine and_congr Iff.rfl ⟨fun h m hm => ?_, fun h => ⟨fun m hm => h m (by omega), h n (by omega)⟩⟩
    rcases Nat.lt_succ_iff_lt_or_eq.mp hm with h' | rfl
    · exact h.1 m h'
    · exact h.2

/-- Every lane of every tile is one of the sixteen that a device computes. -/
theorem lane_index : ∀ (ρ : Bool) (k : Fin 4) (s : Fin 2), ∃ m < 16, (m % 2 == 1) = ρ ∧ Fin.ofNat 4 (m / 4) = k ∧ Fin.ofNat 2 (m / 2) = s := by
  intro ρ k s
  refine ⟨4 * k.val + 2 * s.val + ρ.toNat, ?_, ?_, ?_, ?_⟩ <;> revert ρ k s <;> decide

/-- A device's maximum is bounded when 0 and the sizes in all of its lanes are. -/
theorem amD_le (c : Dev nD) (z : EReal) : (amD X V c : EReal) ≤ z ↔ 0 ≤ z ∧ ∀ ρ k s i, size (yv X V c ρ k s i) ≤ z := by
  refine (amN_le X V c z 16).trans (and_congr Iff.rfl ⟨fun h ρ k s i => ?_, fun h m _ i => h _ _ _ i⟩)
  obtain ⟨m, hm, rfl, rfl, rfl⟩ := lane_index ρ k s
  exact h m hm i

/-- Every device is `c`, one of its two neighbours or the one across. -/
theorem dev_cases : ∀ c d : Fin 4, d = c ∨ d = nx c true ∨ d = nx (nx c true) true ∨ d = nx c false := by decide

/-- The maximum the devices agree on is bounded when every device's own is. -/
theorem gD_le (c : Dev nD) (z : EReal) : (gD X V c : EReal) ≤ z ↔ ∀ d, (amD X V d : EReal) ≤ z := by
  refine (gmax_le _ _ _ _ z).trans ?_
  have key : ∀ (p : Fin 4 → Prop) (c : Fin 4), (p c ∧ p (nx c true) ∧ p (nx (nx c true) true) ∧ p (nx c false)) ↔ ∀ d, p d := by
    intro p c
    refine ⟨fun h d => ?_, fun h => ⟨h _, h _, h _, h _⟩⟩
    rcases dev_cases c d with rfl | rfl | rfl | rfl
    exacts [h.1, h.2.1, h.2.2.1, h.2.2.2]
  exact key (fun d => (amD X V d : EReal) ≤ z) c

end

end Cert.Proof

end
-- ==== Proof.Quant.lean ====
/-
  Over the extended reals: multiplying by the inverse of the scale, as the kernel does, and dividing by the scale, as the
  reference does, quantise to the same value.
-/
module

public import Idealize.ShloMosaic.PureOps.Ideal.Laws

@[expose] public section

noncomputable section

namespace Cert.Proof

open Idealize.ShloMosaic

/-- The pattern of the largest value of the narrow format denotes 448. -/
theorem ofBits_top8 : Ideal.ofBits .f32 0x43E00000#32 = ((448 : ℝ) : EReal) := by
  simp [Ideal.ofBits, Ideal.ieee, -EReal.coe_mul]; norm_num

/-- A quotient of reals, the divisor not 0. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- For a maximum that is not negative, clamping `y` times the inverse of the scale and scaling back is clamping the quotient
    of `y` by the scale and scaling back, whatever the clamp. -/
theorem quant_eq (q : EReal → EReal) (g y : EReal) (hg : 0 ≤ g) :
    q (y * Ideal.div ((448 : ℝ) : EReal) g) * Ideal.div g ((448 : ℝ) : EReal)
      = q (Ideal.div y (Ideal.div g ((448 : ℝ) : EReal))) * Ideal.div g ((448 : ℝ) : EReal) := by
  induction g with
  | bot => exact absurd hg (by simp)
  | top =>
    have e : Ideal.div ⊤ ((448 : ℝ) : EReal) = ⊤ := by
      unfold Ideal.div
      rw [if_neg (by exact_mod_cast (by norm_num : (448 : ℝ) ≠ 0)), ← EReal.coe_inv]
      exact EReal.top_mul_coe_of_pos (by norm_num)
    rw [e]
    have e1 : Ideal.div ((448 : ℝ) : EReal) ⊤ = 0 := by
      unfold Ideal.div
      rw [if_neg EReal.top_ne_zero, EReal.inv_top, mul_zero]
    have e2 : Ideal.div y ⊤ = 0 := by
      unfold Ideal.div
      rw [if_neg EReal.top_ne_zero, EReal.inv_top, mul_zero]
    rw [e1, e2, mul_zero]
  | coe r =>
    rw [div_coe r 448 (by norm_num)]
    rcases eq_or_ne r 0 with rfl | hr
    · rw [zero_div, EReal.coe_zero, mul_zero, mul_zero]
    · rw [div_coe 448 r hr]
      congr 2
      unfold Ideal.div
      rw [if_neg (by exact_mod_cast (div_ne_zero hr (by norm_num) : r / 448 ≠ 0)), ← EReal.coe_inv, inv_div]

end Cert.Proof

end
-- ==== Proof.Equal.lean ====
/-
  Over the extended reals: what the kernel's devices end with is, block by block, what the reference computes from the
  whole matrices.
-/
module

public import proofs.«01_k».proof.Defs
public import proofs.«01_k».proof.Proof.Maxima
public import proofs.«01_k».proof.Proof.Quant
public import proofs.«01_k».proof.Proof.Run
public import proofs.«01_k».proof.Proof.Gen.ReferenceIdeal.Value

@[expose] public section

noncomputable section

namespace Cert.Proof

open Cert.KernelIdeal Cert.KernelIdeal.Gen
open Idealize.ShloMosaic Idealize.ShloMosaic.TcCoe Idealize.ShloMosaic.ValueIdx
open scoped BigOperators

/-- The clamp to the narrow format's range. -/
def clamp (v : EReal) : EReal := min (Ideal.ofBits .f32 0x43E00000#32) (max (Ideal.ofBits .f32 0xC3E00000#32) v)

/-! ### The reference -/

section

variable (A : (⟨2, ![4096, 4096]⟩ : Shape).Idx → EReal) (B : (⟨2, ![4096, 8192]⟩ : Shape).Idx → EReal)

/-- The reference's result. -/
def refOut : (⟨2, ![4096, 8192]⟩ : Shape).Idx → EReal := Cert.ReferenceIdeal.Gen.k0_pay1 (F := Ideal) A B

/-- The reference's product. -/
def refDot : (⟨2, ![4096, 8192]⟩ : Shape).Idx → EReal :=
  matmul (F := Ideal) (φ₁ := .bf16) (φ₂ := .bf16) Cert.ReferenceIdeal.dot_S4096x4096_S4096x8192_S4096x8192_1_0_0_1_n_n none A B (constant _ .f32 0x00000000#32)

/-- The reference's product at an element. -/
theorem refDot_apply (r : Fin 4096) (n : Fin 8192) : refDot A B (ix2 r n) = whole A B r n := by
  unfold refDot
  refine (Ideal.matmul_plain_apply (M := 4096) (K := 4096) (N := 8192) (φ₁ := .bf16) (φ₂ := .bf16) none A B (constant _ .f32 0x00000000#32) r n).trans ?_
  show Ideal.ofBits .f32 0x00000000#32 + _ = _
  rw [Ideal.ofBits_zero_f32, zero_add]
  rfl

/-- The reference's maximum. -/
def refMax : EReal :=
  extractAt ![0, 0, 0] (shapeCast Cert.ReferenceIdeal.S1x1x1
    (multiReduction (F := Ideal) (φ := .f32) .maximumf [1, 2] Cert.ReferenceIdeal.S1 (shapeCast Cert.ReferenceIdeal.S1x4096x8192 (fun i => size (refDot A B i)) Cert.ReferenceIdeal.Gen.shapeCasts_S4096x8192_S1x4096x8192)
      0xFF800000#32 Cert.ReferenceIdeal.Gen.reduces_S1x4096x8192_S1 (.inl rfl) rfl) Cert.ReferenceIdeal.Gen.shapeCasts_S1_S1x1x1) Cert.ReferenceIdeal.Gen.inpos_S1x1x1_p0_0_0

/-- The reference's result at an element, from its product and its maximum. -/
theorem refOut_eq (j : (⟨2, ![4096, 8192]⟩ : Shape).Idx) :
    refOut A B j = clamp (Ideal.div (refDot A B j) (Ideal.div (refMax A B) (Ideal.ofBits .f32 0x43E00000#32))) * Ideal.div (refMax A B) (Ideal.ofBits .f32 0x43E00000#32) := rfl

/-- The reference's maximum is bounded exactly when the size of every element of the product is. -/
theorem refMax_le (z : EReal) : refMax A B ≤ z ↔ ∀ r n, size (whole A B r n) ≤ z := by
  refine (total_le (fun i => size (refDot A B i)) _ _ (by decide) _ _ _ _ _ z).trans ⟨fun h r n => ?_, fun h i => ?_⟩
  · rw [← refDot_apply]; exact h _
  · obtain ⟨r, n, rfl⟩ : ∃ (r : Fin 4096) (n : Fin 8192), i = ix2 r n := ⟨i 0, i 1, eq_ix2 i⟩
    rw [refDot_apply]; exact h r n

/-- The reference's maximum is not negative. -/
theorem refMax_nonneg : 0 ≤ refMax A B := (size_nonneg _).trans ((refMax_le A B _).mp le_rfl 0 0)

end

/-! ### The kernel -/

section

variable (X : Dev nD → (cc0_stg0_0 : Ref sig .tc).ty.Contents (Elt Ideal)) (V : Dev nD → (cc0_stg1_0 : Ref sig .tc).ty.Contents (Elt Ideal))

/-- Tile `t` at an element of its lane `s` is that lane's element. -/
theorem join_lane (c : Dev nD) (t : Fin 8) (s : Fin 2) (i : Fin 1024) (n : Fin 512) :
    join (yk X V c t 0) (yk X V c t 1) (ix2 (n0 := 1024) (n1 := 1024) i (lCol s n)) = yv X V c (ringOf t) (roundOf t) s (ix2 (n0 := 1024) (n1 := 512) i n) := by
  have hk : ∀ s : Fin 2, yk X V c t s = yv X V c (ringOf t) (roundOf t) s := fun s => by
    unfold yk ykeep
    rw [shapeCast_self]
    rfl
  unfold join
  match s with
  | 0 =>
    have h : ((ix2 (n0 := 1024) (n1 := 1024) i (lCol 0 n)) 1).val < 512 := by show 0 * 512 + n.val < 512; omega
    rw [dif_pos h, hk]
    refine congrArg (yv X V c (ringOf t) (roundOf t) 0) ?_
    funext a; apply Fin.ext
    match a with
    | 0 => rfl
    | 1 => show 0 * 512 + n.val = n.val; omega
  | 1 =>
    have h : ¬ ((ix2 (n0 := 1024) (n1 := 1024) i (lCol 1 n)) 1).val < 512 := by show ¬ 1 * 512 + n.val < 512; omega
    rw [dif_neg h, hk]
    refine congrArg (yv X V c (ringOf t) (roundOf t) 1) ?_
    funext a; apply Fin.ext
    match a with
    | 0 => rfl
    | 1 => show 1 * 512 + n.val - 512 = n.val; omega

/-- A tile quantised at an element. -/
theorem quant_apply (g : EReal) (v : S1024x1024.Idx → EReal) (j : S1024x1024.Idx) :
    (quant (F := Ideal) g v j : EReal) = clamp (v j * Ideal.div (Ideal.ofBits .f32 0x43E00000#32) g) * Ideal.div g (Ideal.ofBits .f32 0x43E00000#32) := rfl

/-- A lane of the result at an element, from the lane's sum and the maximum that the devices agree on. -/
theorem outV_apply (c : Dev nD) (t : Fin 8) (s : Fin 2) (i : Fin 1024) (n : Fin 512) :
    (outV X V c t s (ix2 (n0 := 1024) (n1 := 512) i n) : EReal)
      = clamp ((yv X V c (ringOf t) (roundOf t) s (ix2 (n0 := 1024) (n1 := 512) i n) : EReal) * Ideal.div (Ideal.ofBits .f32 0x43E00000#32) (gD X V c))
        * Ideal.div (gD X V c) (Ideal.ofBits .f32 0x43E00000#32) := by
  unfold outV
  rw [ofSlot_toSlot, laneOf_apply, ← join_lane]
  exact quant_apply _ _ _

/-- The ring and the round that compute a tile. -/
theorem tile_back : ∀ t : Fin 8, tileOf (ringOf t) (roundOf t) = t := by decide
/-- A column is that of its tile, its lane and its place there. -/
theorem col_split (n : Fin 8192) : n = gCol (colTile n) (lCol (colLane n) ⟨n.val % 512, Nat.mod_lt _ (by decide)⟩) :=
  Fin.ext (by show n.val = n.val / 1024 * 1024 + (n.val % 1024 / 512 * 512 + n.val % 512); omega)

variable (A : (⟨2, ![4096, 4096]⟩ : Shape).Idx → EReal) (B : (⟨2, ![4096, 8192]⟩ : Shape).Idx → EReal)
variable (hX : ∀ c : Dev nD, X c = Layout.block ⟨2, ![4096, 1024]⟩ ⟨2, ![4096, 4096]⟩ 1 4 c A)
variable (hV : ∀ c : Dev nD, V c = Layout.block ⟨2, ![1024, 8192]⟩ ⟨2, ![4096, 8192]⟩ 0 4 c B)
include hX hV

/-- A lane's sum at an element is the whole product there. -/
theorem yv_whole (c : Dev nD) (ρ : Bool) (k : Fin 4) (s : Fin 2) (i : Fin 1024) (n : Fin 512) :
    (yv X V c ρ k s (ix2 (n0 := 1024) (n1 := 512) i n) : EReal) = whole A B (gRow c i) (gCol (tileOf ρ k) (lCol s n)) :=
  (yv_apply X V c ρ k s i n).trans (sum_share A B X V hX hV _ _)

/-- The maximum that the devices agree on is the reference's. -/
theorem gD_eq (c : Dev nD) : (gD X V c : EReal) = refMax A B := by
  refine eq_of_forall_ge_iff fun z => ?_
  rw [gD_le, refMax_le]
  constructor
  · intro h r n
    have h' := ((amD_le X V (⟨r.val / 1024, by omega⟩ : Fin 4) z).mp (h _)).2 (ringOf (colTile n)) (roundOf (colTile n)) (colLane n)
      (ix2 (n0 := 1024) (n1 := 512) ⟨r.val % 1024, Nat.mod_lt _ (by decide)⟩ ⟨n.val % 512, Nat.mod_lt _ (by decide)⟩)
    rw [yv_whole X V A B hX hV, tile_back, ← col_split] at h'
    have er : gRow (⟨r.val / 1024, by omega⟩ : Fin 4) ⟨r.val % 1024, Nat.mod_lt _ (by decide)⟩ = r :=
      Fin.ext (by show r.val / 1024 * 1024 + r.val % 1024 = r.val; omega)
    rwa [er] at h'
  · intro h d
    refine (amD_le X V d z).mpr ⟨(size_nonneg _).trans (h 0 0), fun ρ k s i => ?_⟩
    obtain ⟨r, n, rfl⟩ : ∃ (r : Fin 1024) (n : Fin 512), i = ix2 r n := ⟨i 0, i 1, eq_ix2 i⟩
    rw [yv_whole X V A B hX hV]
    exact h _ _

/-- A lane of a device's result is the reference's result at its rows and columns. -/
theorem outV_eq (c : Dev nD) (t : Fin 8) (s : Fin 2) (i : Fin 1024) (n : Fin 512) :
    (outV X V c t s (ix2 (n0 := 1024) (n1 := 512) i n) : EReal) = refOut A B (ix2 (gRow c i) (gCol t (lCol s n))) := by
  rw [outV_apply, gD_eq X V A B hX hV, yv_whole X V A B hX hV, tile_back, refOut_eq, refDot_apply, ofBits_top8]
  exact quant_eq clamp _ _ (refMax_nonneg A B)

/-- What a device ends with is its block of the reference's result. -/
theorem out_block (c : Dev nD) (g : oM.view.ty.Contents (Elt Ideal)) (h : Out X V c g) :
    g = Layout.block ⟨2, ![1024, 8192]⟩ ⟨2, ![4096, 8192]⟩ 0 4 c (refOut A B) := by
  funext j
  have hj := congrFun (h (colTile (j 1)) (colLane (j 1))) (ix2 (n0 := 1024) (n1 := 512) (j 0) ⟨(j 1).val % 512, Nat.mod_lt _ (by decide)⟩)
  have hcol := col_split (j 1)
  have e : (ocolRect (colTile (j 1)) (colLane (j 1))).emb (ix2 (n0 := 1024) (n1 := 512) (j 0) ⟨(j 1).val % 512, Nat.mod_lt _ (by decide)⟩) = j := by
    funext a; apply Fin.ext
    match a with
    | 0 => show 0 + 1 * (j 0).val = (j 0).val; omega
    | 1 =>
      show (j 1).val / 1024 * 1024 + (j 1).val % 1024 / 512 * 512 + 1 * ((j 1).val % 512) = (j 1).val
      omega
  refine ((congrArg g e).symm.trans hj).trans ((outV_eq X V A B hX hV c _ _ _ _).trans ?_)
  refine congrArg (refOut A B) ?_
  funext a; apply Fin.ext
  match a with
  | 0 => rfl
  | 1 => exact (congrArg Fin.val hcol).symm

end

/-! ### The two runs -/

/-- What the kernel's body finds of `x` is the whole of the argument. -/
theorem Xm_eq (m : (ℓ : Loc nD τ sig) → Buf (Elt Ideal) ℓ) (c : Dev nD) : Xm m c = m ((c : Thread nD τ).loc main_arg0) := by
  funext j
  refine congrArg (m ((c : Thread nD τ).loc main_arg0)) ?_
  funext a; apply Fin.ext
  match a with
  | 0 => show 0 * 4096 + 1 * (j 0).val = (j 0).val; omega
  | 1 => show 0 * 1024 + 1 * (j 1).val = (j 1).val; omega

/-- What the kernel's body finds of `w` is the whole of the argument. -/
theorem Vm_eq (m : (ℓ : Loc nD τ sig) → Buf (Elt Ideal) ℓ) (c : Dev nD) : Vm m c = m ((c : Thread nD τ).loc main_arg1) := by
  funext j
  refine congrArg (m ((c : Thread nD τ).loc main_arg1)) ?_
  funext a; apply Fin.ext
  match a with
  | 0 => show 0 * 1024 + 1 * (j 0).val = (j 0).val; omega
  | 1 => show 0 * 8192 + 1 * (j 1).val = (j 1).val; omega

/-- From memories in which each device holds its blocks of the whole matrices, the kernel ends with each device holding its block
    of what the reference ends with, and both leave their arguments as they were. -/
theorem algebraic : Cert.algebraic_KernelIdeal_ReferenceIdeal (hKernelIdeal := Cert.KernelIdeal.Gen.facts) (hReferenceIdeal := Cert.ReferenceIdeal.Gen.facts) := by
  intro m g m' g' _ hagree
  refine ⟨refOut (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run _ _ _).mono ?_ (run_main m g), (θ_run _ _ _).mono ?_ (Cert.ReferenceIdeal.Value.run m' g')⟩
  · intro r hr c
    obtain ⟨h0, h1, hO⟩ := hr.1 c
    exact ⟨out_block (Xm m) (Vm m) _ _ (fun d => (Xm_eq m d).trans (hagree d).1) (fun d => (Vm_eq m d).trans (hagree d).2) c _ hO, h0, h1⟩
  · intro r hr
    exact hr 0

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel at machine floats: it runs, its arguments end unchanged, its semaphores end at zero. -/
theorem frame_kernel : Cert.quiescent_Kernel := frame_bits

/-- The same of the kernel over the extended reals. -/
theorem frame_kernelIdeal : Cert.quiescent_KernelIdeal := fun m g _ => frame_any (F := Ideal) m g

/-- The whole claim. -/
theorem claim : Cert.Claim := ⟨Cert.Kernel.Gen.facts, Cert.KernelIdeal.Gen.facts, Cert.ReferenceIdeal.Gen.facts,
  frame_kernel, frame_kernelIdeal, fun m g _ => Cert.ReferenceIdeal.Gen.frame m g, trivial, algebraic⟩

end Cert.Proof

end
